-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x2048 : Shape := ⟨2, ![2048, 2048]⟩
abbrev S128x2048 : Shape := ⟨2, ![128, 2048]⟩
abbrev S16x128x128 : Shape := ⟨3, ![16, 128, 128]⟩
abbrev S16x128x2048 : Shape := ⟨3, ![16, 128, 2048]⟩
abbrev S16 : Shape := ⟨1, ![16]⟩
abbrev S1 : Shape := ⟨1, ![1]⟩
abbrev S_ : Shape := ⟨0, ![]⟩
abbrev S1x128x2048 : Shape := ⟨3, ![1, 128, 2048]⟩
abbrev S128x128 : Shape := ⟨2, ![128, 128]⟩
abbrev S1x128x128 : Shape := ⟨3, ![1, 128, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S128x2048, .f32⟩
  | .local _ .vmem, ⟨0, _⟩ => ⟨S2048x128, .f32⟩
  | .local _ .vmem, ⟨1, _⟩ => ⟨S128x2048, .f32⟩
  | .local _ .vmem, ⟨2, _⟩ => ⟨S2048x128, .bf16⟩
  | .local _ .vmem, ⟨3, _⟩ => ⟨S16x128x128, .bf16⟩
  | .local _ .vmem, ⟨4, _⟩ => ⟨S16x128x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_69 : BitVec 32 := 128#32
  let v89 : BitVec 32 := Scalar.muli v2 c128_i32_69
  let v90 : Index := Scalar.indexCast v89
  let c0_70 : Index := 0#32
  ![v90.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v92 : Index := Scalar.indexCast v2
  let c0_71 : Index := 0#32
  let c0_72 : Index := 0#32
  ![v92.toNat, 0, 0]
def k0_dev1 : Nat :=
  let c0_i32_76 : BitVec 32 := 0#32
  let c0_i32_74 : BitVec 32 := 0#32
  let c1_i32_75 : BitVec 32 := 1#32
  let v97 : BitVec 32 := Scalar.muli c0_i32_74 c1_i32_75
  let v98 : BitVec 32 := Scalar.addi c0_i32_76 v97
  v98.toNat
def k0_dev2 : Nat :=
  let c0_i32_80 : BitVec 32 := 0#32
  let c1_i32_78 : BitVec 32 := 1#32
  let c1_i32_79 : BitVec 32 := 1#32
  let v99 : BitVec 32 := Scalar.muli c1_i32_78 c1_i32_79
  let v100 : BitVec 32 := Scalar.addi c0_i32_80 v99
  v100.toNat
def k0_dev3 : Nat :=
  let c0_i32_84 : BitVec 32 := 0#32
  let c2_i32_82 : BitVec 32 := 2#32
  let c1_i32_83 : BitVec 32 := 1#32
  let v101 : BitVec 32 := Scalar.muli c2_i32_82 c1_i32_83
  let v102 : BitVec 32 := Scalar.addi c0_i32_84 v101
  v102.toNat
def k0_dev4 : Nat :=
  let c0_i32_88 : BitVec 32 := 0#32
  let c3_i32_86 : BitVec 32 := 3#32
  let c1_i32_87 : BitVec 32 := 1#32
  let v103 : BitVec 32 := Scalar.muli c3_i32_86 c1_i32_87
  let v104 : BitVec 32 := Scalar.addi c0_i32_88 v103
  v104.toNat
def k0_dev5 : Nat :=
  let c0_i32_92 : BitVec 32 := 0#32
  let c4_i32_90 : BitVec 32 := 4#32
  let c1_i32_91 : BitVec 32 := 1#32
  let v105 : BitVec 32 := Scalar.muli c4_i32_90 c1_i32_91
  let v106 : BitVec 32 := Scalar.addi c0_i32_92 v105
  v106.toNat
def k0_dev6 : Nat :=
  let c0_i32_96 : BitVec 32 := 0#32
  let c5_i32_94 : BitVec 32 := 5#32
  let c1_i32_95 : BitVec 32 := 1#32
  let v107 : BitVec 32 := Scalar.muli c5_i32_94 c1_i32_95
  let v108 : BitVec 32 := Scalar.addi c0_i32_96 v107
  v108.toNat
def k0_dev7 : Nat :=
  let c0_i32_100 : BitVec 32 := 0#32
  let c6_i32_98 : BitVec 32 := 6#32
  let c1_i32_99 : BitVec 32 := 1#32
  let v109 : BitVec 32 := Scalar.muli c6_i32_98 c1_i32_99
  let v110 : BitVec 32 := Scalar.addi c0_i32_100 v109
  v110.toNat
def k0_dev8 : Nat :=
  let c0_i32_104 : BitVec 32 := 0#32
  let c7_i32_102 : BitVec 32 := 7#32
  let c1_i32_103 : BitVec 32 := 1#32
  let v111 : BitVec 32 := Scalar.muli c7_i32_102 c1_i32_103
  let v112 : BitVec 32 := Scalar.addi c0_i32_104 v111
  v112.toNat
def k0_dev9 : Nat :=
  let c0_i32_108 : BitVec 32 := 0#32
  let c8_i32_106 : BitVec 32 := 8#32
  let c1_i32_107 : BitVec 32 := 1#32
  let v113 : BitVec 32 := Scalar.muli c8_i32_106 c1_i32_107
  let v114 : BitVec 32 := Scalar.addi c0_i32_108 v113
  v114.toNat
def k0_dev10 : Nat :=
  let c0_i32_112 : BitVec 32 := 0#32
  let c9_i32_110 : BitVec 32 := 9#32
  let c1_i32_111 : BitVec 32 := 1#32
  let v115 : BitVec 32 := Scalar.muli c9_i32_110 c1_i32_111
  let v116 : BitVec 32 := Scalar.addi c0_i32_112 v115
  v116.toNat
def k0_dev11 : Nat :=
  let c0_i32_116 : BitVec 32 := 0#32
  let c10_i32_114 : BitVec 32 := 10#32
  let c1_i32_115 : BitVec 32 := 1#32
  let v117 : BitVec 32 := Scalar.muli c10_i32_114 c1_i32_115
  let v118 : BitVec 32 := Scalar.addi c0_i32_116 v117
  v118.toNat
def k0_dev12 : Nat :=
  let c0_i32_120 : BitVec 32 := 0#32
  let c11_i32_118 : BitVec 32 := 11#32
  let c1_i32_119 : BitVec 32 := 1#32
  let v119 : BitVec 32 := Scalar.muli c11_i32_118 c1_i32_119
  let v120 : BitVec 32 := Scalar.addi c0_i32_120 v119
  v120.toNat
def k0_dev13 : Nat :=
  let c0_i32_124 : BitVec 32 := 0#32
  let c12_i32_122 : BitVec 32 := 12#32
  let c1_i32_123 : BitVec 32 := 1#32
  let v121 : BitVec 32 := Scalar.muli c12_i32_122 c1_i32_123
  let v122 : BitVec 32 := Scalar.addi c0_i32_124 v121
  v122.toNat
def k0_dev14 : Nat :=
  let c0_i32_128 : BitVec 32 := 0#32
  let c13_i32_126 : BitVec 32 := 13#32
  let c1_i32_127 : BitVec 32 := 1#32
  let v123 : BitVec 32 := Scalar.muli c13_i32_126 c1_i32_127
  let v124 : BitVec 32 := Scalar.addi c0_i32_128 v123
  v124.toNat
def k0_dev15 : Nat :=
  let c0_i32_132 : BitVec 32 := 0#32
  let c14_i32_130 : BitVec 32 := 14#32
  let c1_i32_131 : BitVec 32 := 1#32
  let v125 : BitVec 32 := Scalar.muli c14_i32_130 c1_i32_131
  let v126 : BitVec 32 := Scalar.addi c0_i32_132 v125
  v126.toNat
def k0_dev16 : Nat :=
  let c0_i32_136 : BitVec 32 := 0#32
  let c15_i32_134 : BitVec 32 := 15#32
  let c1_i32_135 : BitVec 32 := 1#32
  let v127 : BitVec 32 := Scalar.muli c15_i32_134 c1_i32_135
  let v128 : BitVec 32 := Scalar.addi c0_i32_136 v127
  v128.toNat
def k0_off3 (d0 : Dev nD) (c1_i32_138 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v129 : BitVec 32 := Scalar.addi v2 c1_i32_138
  let c16_i32_139 : BitVec 32 := 16#32
  let v130 : BitVec 32 := Scalar.remsi v129 c16_i32_139
  ![v130.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_143 : BitVec 32 := 0#32
  let c0_i32_144 : BitVec 32 := 0#32
  ![v2.toNat, 0, 0]
def k0_off6 (d0 : Dev nD) (c1_i32_138 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v129 : BitVec 32 := Scalar.addi v2 c1_i32_138
  let c16_i32_139 : BitVec 32 := 16#32
  let v130 : BitVec 32 := Scalar.remsi v129 c16_i32_139
  let c128_i32_140 : BitVec 32 := 128#32
  let v131 : BitVec 32 := Scalar.muli v130 c128_i32_140
  let c0_i32_145 : BitVec 32 := 0#32
  ![v131.toNat, 0]
def k0_dev17 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_138 : BitVec 32 := 1#32
  let v129 : BitVec 32 := Scalar.addi v2 c1_i32_138
  let c16_i32_139 : BitVec 32 := 16#32
  let v130 : BitVec 32 := Scalar.remsi v129 c16_i32_139
  let c1_i32_141 : BitVec 32 := 1#32
  let v132 : BitVec 32 := Scalar.muli v130 c1_i32_141
  let v133 : BitVec 32 := Scalar.addi c0_i32_142 v132
  v133.toNat
def k0_dev18 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_146 : BitVec 32 := 2#32
  let v141 : BitVec 32 := Scalar.addi v2 c2_i32_146
  let c16_i32_147 : BitVec 32 := 16#32
  let v142 : BitVec 32 := Scalar.remsi v141 c16_i32_147
  let c1_i32_149 : BitVec 32 := 1#32
  let v144 : BitVec 32 := Scalar.muli v142 c1_i32_149
  let v145 : BitVec 32 := Scalar.addi c0_i32_150 v144
  v145.toNat
def k0_dev19 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_154 : BitVec 32 := 3#32
  let v153 : BitVec 32 := Scalar.addi v2 c3_i32_154
  let c16_i32_155 : BitVec 32 := 16#32
  let v154 : BitVec 32 := Scalar.remsi v153 c16_i32_155
  let c1_i32_157 : BitVec 32 := 1#32
  let v156 : BitVec 32 := Scalar.muli v154 c1_i32_157
  let v157 : BitVec 32 := Scalar.addi c0_i32_158 v156
  v157.toNat
def k0_dev20 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_162 : BitVec 32 := 4#32
  let v165 : BitVec 32 := Scalar.addi v2 c4_i32_162
  let c16_i32_163 : BitVec 32 := 16#32
  let v166 : BitVec 32 := Scalar.remsi v165 c16_i32_163
  let c1_i32_165 : BitVec 32 := 1#32
  let v168 : BitVec 32 := Scalar.muli v166 c1_i32_165
  let v169 : BitVec 32 := Scalar.addi c0_i32_166 v168
  v169.toNat
def k0_dev21 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_170 : BitVec 32 := 5#32
  let v177 : BitVec 32 := Scalar.addi v2 c5_i32_170
  let c16_i32_171 : BitVec 32 := 16#32
  let v178 : BitVec 32 := Scalar.remsi v177 c16_i32_171
  let c1_i32_173 : BitVec 32 := 1#32
  let v180 : BitVec 32 := Scalar.muli v178 c1_i32_173
  let v181 : BitVec 32 := Scalar.addi c0_i32_174 v180
  v181.toNat
def k0_dev22 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_178 : BitVec 32 := 6#32
  let v189 : BitVec 32 := Scalar.addi v2 c6_i32_178
  let c16_i32_179 : BitVec 32 := 16#32
  let v190 : BitVec 32 := Scalar.remsi v189 c16_i32_179
  let c1_i32_181 : BitVec 32 := 1#32
  let v192 : BitVec 32 := Scalar.muli v190 c1_i32_181
  let v193 : BitVec 32 := Scalar.addi c0_i32_182 v192
  v193.toNat
def k0_dev23 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_186 : BitVec 32 := 7#32
  let v201 : BitVec 32 := Scalar.addi v2 c7_i32_186
  let c16_i32_187 : BitVec 32 := 16#32
  let v202 : BitVec 32 := Scalar.remsi v201 c16_i32_187
  let c1_i32_189 : BitVec 32 := 1#32
  let v204 : BitVec 32 := Scalar.muli v202 c1_i32_189
  let v205 : BitVec 32 := Scalar.addi c0_i32_190 v204
  v205.toNat
def k0_dev24 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_194 : BitVec 32 := 8#32
  let v213 : BitVec 32 := Scalar.addi v2 c8_i32_194
  let c16_i32_195 : BitVec 32 := 16#32
  let v214 : BitVec 32 := Scalar.remsi v213 c16_i32_195
  let c1_i32_197 : BitVec 32 := 1#32
  let v216 : BitVec 32 := Scalar.muli v214 c1_i32_197
  let v217 : BitVec 32 := Scalar.addi c0_i32_198 v216
  v217.toNat
def k0_dev25 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_202 : BitVec 32 := 9#32
  let v225 : BitVec 32 := Scalar.addi v2 c9_i32_202
  let c16_i32_203 : BitVec 32 := 16#32
  let v226 : BitVec 32 := Scalar.remsi v225 c16_i32_203
  let c1_i32_205 : BitVec 32 := 1#32
  let v228 : BitVec 32 := Scalar.muli v226 c1_i32_205
  let v229 : BitVec 32 := Scalar.addi c0_i32_206 v228
  v229.toNat
def k0_dev26 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_210 : BitVec 32 := 10#32
  let v237 : BitVec 32 := Scalar.addi v2 c10_i32_210
  let c16_i32_211 : BitVec 32 := 16#32
  let v238 : BitVec 32 := Scalar.remsi v237 c16_i32_211
  let c1_i32_213 : BitVec 32 := 1#32
  let v240 : BitVec 32 := Scalar.muli v238 c1_i32_213
  let v241 : BitVec 32 := Scalar.addi c0_i32_214 v240
  v241.toNat
def k0_dev27 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_218 : BitVec 32 := 11#32
  let v249 : BitVec 32 := Scalar.addi v2 c11_i32_218
  let c16_i32_219 : BitVec 32 := 16#32
  let v250 : BitVec 32 := Scalar.remsi v249 c16_i32_219
  let c1_i32_221 : BitVec 32 := 1#32
  let v252 : BitVec 32 := Scalar.muli v250 c1_i32_221
  let v253 : BitVec 32 := Scalar.addi c0_i32_222 v252
  v253.toNat
def k0_dev28 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_226 : BitVec 32 := 12#32
  let v261 : BitVec 32 := Scalar.addi v2 c12_i32_226
  let c16_i32_227 : BitVec 32 := 16#32
  let v262 : BitVec 32 := Scalar.remsi v261 c16_i32_227
  let c1_i32_229 : BitVec 32 := 1#32
  let v264 : BitVec 32 := Scalar.muli v262 c1_i32_229
  let v265 : BitVec 32 := Scalar.addi c0_i32_230 v264
  v265.toNat
def k0_dev29 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_234 : BitVec 32 := 13#32
  let v273 : BitVec 32 := Scalar.addi v2 c13_i32_234
  let c16_i32_235 : BitVec 32 := 16#32
  let v274 : BitVec 32 := Scalar.remsi v273 c16_i32_235
  let c1_i32_237 : BitVec 32 := 1#32
  let v276 : BitVec 32 := Scalar.muli v274 c1_i32_237
  let v277 : BitVec 32 := Scalar.addi c0_i32_238 v276
  v277.toNat
def k0_dev30 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_242 : BitVec 32 := 14#32
  let v285 : BitVec 32 := Scalar.addi v2 c14_i32_242
  let c16_i32_243 : BitVec 32 := 16#32
  let v286 : BitVec 32 := Scalar.remsi v285 c16_i32_243
  let c1_i32_245 : BitVec 32 := 1#32
  let v288 : BitVec 32 := Scalar.muli v286 c1_i32_245
  let v289 : BitVec 32 := Scalar.addi c0_i32_246 v288
  v289.toNat
def k0_dev31 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_250 : BitVec 32 := 15#32
  let v297 : BitVec 32 := Scalar.addi v2 c15_i32_250
  let c16_i32_251 : BitVec 32 := 16#32
  let v298 : BitVec 32 := Scalar.remsi v297 c16_i32_251
  let c1_i32_253 : BitVec 32 := 1#32
  let v300 : BitVec 32 := Scalar.muli v298 c1_i32_253
  let v301 : BitVec 32 := Scalar.addi c0_i32_254 v300
  v301.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_258 : BitVec 32 := 128#32
  let v310 : BitVec 32 := Scalar.muli v2 c128_i32_258
  let c0_i32_261 : BitVec 32 := 0#32
  ![v310.toNat, 0]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v320 : Index := Scalar.indexCast v2
  let c0_264 : Index := 0#32
  let c0_265 : Index := 0#32
  ![v320.toNat, 0, 0]
def k0_off10 (d0 : Dev nD) (c15_i32_267 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v325 : BitVec 32 := Scalar.addi v2 c15_i32_267
  let c16_i32_268 : BitVec 32 := 16#32
  let v326 : BitVec 32 := Scalar.remsi v325 c16_i32_268
  let c0_i32_270 : BitVec 32 := 0#32
  let c0_i32_271 : BitVec 32 := 0#32
  ![v326.toNat, 0, 0]
def k0_off11 (d0 : Dev nD) (c15_i32_267 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v325 : BitVec 32 := Scalar.addi v2 c15_i32_267
  let c16_i32_268 : BitVec 32 := 16#32
  let v326 : BitVec 32 := Scalar.remsi v325 c16_i32_268
  let c128_i32_269 : BitVec 32 := 128#32
  let v327 : BitVec 32 := Scalar.muli v326 c128_i32_269
  let c0_i32_272 : BitVec 32 := 0#32
  ![v327.toNat, 0]
def k0_off12 (d0 : Dev nD) (c15_i32_267 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v325 : BitVec 32 := Scalar.addi v2 c15_i32_267
  let c16_i32_268 : BitVec 32 := 16#32
  let v326 : BitVec 32 := Scalar.remsi v325 c16_i32_268
  let c0_i32_276 : BitVec 32 := 0#32
  let c0_i32_277 : BitVec 32 := 0#32
  ![v326.toNat, 0, 0]
def k0_off13 (d0 : Dev nD) (c15_i32_267 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v325 : BitVec 32 := Scalar.addi v2 c15_i32_267
  let c16_i32_268 : BitVec 32 := 16#32
  let v326 : BitVec 32 := Scalar.remsi v325 c16_i32_268
  let v341 : Index := Scalar.indexCast v326
  let c0_279 : Index := 0#32
  let c0_280 : Index := 0#32
  ![v341.toNat, 0, 0]
def k0_off14 (d0 : Dev nD) (c15_i32_267 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v325 : BitVec 32 := Scalar.addi v2 c15_i32_267
  let c16_i32_268 : BitVec 32 := 16#32
  let v326 : BitVec 32 := Scalar.remsi v325 c16_i32_268
  let v345 : Index := Scalar.indexCast v326
  let c0_281 : Index := 0#32
  let c0_282 : Index := 0#32
  ![v345.toNat, 0, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
/-
# Where everything lives

The kernel runs on sixteen devices. Device `c` keeps
* `xbf`  (scratch 0): its own columns of `x`, rounded to bf16, cut into sixteen row blocks, one per receiver;
* `comm` (scratch 1): sixteen slots, slot `j` for the row block that device `j` sends;
* `wbuf` (scratch 2): sixteen slots, slot `j` for rows `128 j … 128 j + 127` of `w`;
* three arrays of sixteen DMA semaphores: sends, receives, copies of `w`; and the barrier semaphore.

This file names these memrefs and semaphores at a block number `j : Dev nD`, says which elements each
covers, and states what every buffer holds once it is filled, each as ONE function of the whole buffer,
so that a slot that arrived is the buffer's contents restricted to the slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Exchange

open Cert.KernelIdeal Cert.KernelIdeal.Gen
open Idealize.ShloMosaic Idealize.ShloMosaic.TcCoe Idealize.ShloMosaic.ValueIdx

variable {F : FTy → Type} [FloatOps F]

/-! ## The memrefs -/

abbrev xM : Memref sig .tc .vmem S2048x128 .f32 := Memref.whole cc0_stg0_0
abbrev oM : Memref sig .tc .vmem S128x2048 .f32 := Memref.whole cc0_stg1_0
abbrev bM : Memref sig .tc .vmem S2048x128 .bf16 := Memref.whole cc0_scratch0
abbrev cM : Memref sig .tc .vmem S16x128x128 .bf16 := Memref.whole cc0_scratch1
abbrev pM : Memref sig .tc .vmem S16x128x2048 .f32 := Memref.whole cc0_scratch2
abbrev wM : Memref sig .tc .hbm S2048x2048 .f32 := Memref.whole main_arg1

theorem inb_row (j : Dev nD) : ∀ a, (![128 * j.val, 0] : Fin 2 → Nat) a + S128x2048.size a ≤ S2048x2048.size a :=
  Fin.forall_fin_two.mpr ⟨by show 128 * j.val + 128 ≤ 2048; have := j.isLt; simp only [nD] at this; omega, by show 0 + 2048 ≤ 2048; omega⟩
theorem inb_slab (j : Dev nD) : ∀ a, (![128 * j.val, 0] : Fin 2 → Nat) a + S128x128.size a ≤ S2048x128.size a :=
  Fin.forall_fin_two.mpr ⟨by show 128 * j.val + 128 ≤ 2048; have := j.isLt; simp only [nD] at this; omega, by show 0 + 128 ≤ 128; omega⟩
theorem inb_comm (j : Dev nD) : ∀ a, (![j.val, 0, 0] : Fin 3 → Nat) a + S1x128x128.size a ≤ S16x128x128.size a :=
  Fin.forall_fin_succ.mpr ⟨by show j.val + 1 ≤ 16; have := j.isLt; simp only [nD] at this; omega,
    Fin.forall_fin_two.mpr ⟨by show 0 + 128 ≤ 128; omega, by show 0 + 128 ≤ 128; omega⟩⟩
theorem inb_wbuf (j : Dev nD) : ∀ a, (![j.val, 0, 0] : Fin 3 → Nat) a + S1x128x2048.size a ≤ S16x128x2048.size a :=
  Fin.forall_fin_succ.mpr ⟨by show j.val + 1 ≤ 16; have := j.isLt; simp only [nD] at this; omega,
    Fin.forall_fin_two.mpr ⟨by show 0 + 128 ≤ 128; omega, by show 0 + 2048 ≤ 2048; omega⟩⟩
theorem inb_sem (j : Dev nD) : ∀ a, (![j.val] : Fin 1 → Nat) a + S1.size a ≤ S16.size a :=
  Fin.forall_fin_succ.mpr ⟨by show j.val + 1 ≤ 16; have := j.isLt; simp only [nD] at this; omega, fun a => a.elim0⟩

/-- Rows `128 j … 128 j + 127` of `w`; the row block of `xbf` for device `j`; slot `j` of `comm`; slot `j` of `wbuf`. -/
abbrev wRow (j : Dev nD) : Memref sig .tc .hbm S128x2048 .f32 :=
  wM.slice (Rect.unit (s := S2048x2048) ![128 * j.val, 0] S128x2048.size (inb_row j)) (fun _ => rfl)
abbrev bRow (j : Dev nD) : Memref sig .tc .vmem S128x128 .bf16 :=
  bM.slice (Rect.unit (s := S2048x128) ![128 * j.val, 0] S128x128.size (inb_slab j)) (fun _ => rfl)
abbrev cSlot (j : Dev nD) : Memref sig .tc .vmem S128x128 .bf16 :=
  (cM.slice (Rect.unit (s := S16x128x128) ![j.val, 0, 0] S1x128x128.size (inb_comm j)) (fun _ => rfl)).squeeze S128x128
    squeezes_S1x128x128_S128x128
abbrev pSlot (j : Dev nD) : Memref sig .tc .vmem S128x2048 .f32 :=
  (pM.slice (Rect.unit (s := S16x128x2048) ![j.val, 0, 0] S1x128x2048.size (inb_wbuf j)) (fun _ => rfl)).squeeze S128x2048
    squeezes_S1x128x2048_S128x2048

/-! ## The semaphores -/

/-- The runtime's barrier semaphore, not scoped to the launch. -/
abbrev barS : Sem sig := (SemArray.scalar (sig.barrier 0 rfl) : Sems sig S_).sem

/-- The semaphore at position `j` of one of the three arrays. -/
abbrev semAt (a : DmaSems sig S16) (j : Dev nD) : DmaSem sig :=
  ((a.slice (Rect.unit (s := S16) ![j.val] S1.size (inb_sem j))).squeeze S_ squeezes_S1_S_).sem

abbrev sendS (j : Dev nD) : DmaSem sig := semAt cc0_scratch3 j
abbrev recvS (j : Dev nD) : DmaSem sig := semAt cc0_scratch4 j
abbrev wS (j : Dev nD) : DmaSem sig := semAt cc0_scratch5 j

/-- The kernel's own forty-eight DMA semaphores: array 0 the sends, 1 the receives, 2 the copies of `w`. -/
def osem (k : Fin 3 × Dev nD) : SemLoc sig :=
  match k.1 with
  | 0 => .dma (sendS k.2)
  | 1 => .dma (recvS k.2)
  | 2 => .dma (wS k.2)

/-- All forty-nine: those and the barrier semaphore. -/
def csem : Option (Fin 3 × Dev nD) → SemLoc sig
  | none => .reg barS
  | some k => osem k

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))
abbrev wCell (c j : Dev nD) : GSem nD τ sig := ((c : Thread nD τ), .dma (wS j))

theorem semAt_val (b : Nat) (h : b + S16.numel ≤ sig.nDmaSem) (j : Dev nD) :
    (semAt (SemArray.consecutive b S16 h) j).val = b + j.val := by
  show b + (S16.rowMajor _).val = b + j.val
  congr 1
  rw [Shape.rowMajor_val_one]
  show j.val + 1 * _ = j.val
  rw [Nat.one_mul, Nat.add_eq_left]
  exact Nat.lt_one_iff.mp (Fin.isLt _)

theorem sendS_val (j : Dev nD) : (sendS j).val = 2 + j.val := semAt_val 2 _ j
theorem recvS_val (j : Dev nD) : (recvS j).val = 18 + j.val := semAt_val 18 _ j
theorem wS_val (j : Dev nD) : (wS j).val = 34 + j.val := semAt_val 34 _ j

/-- The number of the DMA semaphore `osem k`. -/
theorem osem_eq (k : Fin 3 × Dev nD) : ∃ q : DmaSem sig, osem k = .dma q ∧ q.val = 2 + 16 * k.1.val + k.2.val := by
  obtain ⟨a, j⟩ := k
  fin_cases a
  · exact ⟨_, rfl, by rw [sendS_val]; rfl⟩
  · exact ⟨_, rfl, by rw [recvS_val]; rfl⟩
  · exact ⟨_, rfl, by rw [wS_val]; rfl⟩

theorem osem_inj : Function.Injective osem := fun k k' h => by
  obtain ⟨q, hq, hv⟩ := osem_eq k
  obtain ⟨q', hq', hv'⟩ := osem_eq k'
  rw [hq, hq'] at h
  have e : q = q' := by injection h
  have e' : q.val = q'.val := congrArg Fin.val e
  have h1 := k.2.isLt
  have h2 := k'.2.isLt
  simp only [nD] at h1 h2
  refine Prod.ext (Fin.ext ?_) (Fin.ext ?_) <;> omega

theorem csem_inj : Function.Injective csem := fun k k' h => by
  cases k with
  | none =>
    cases k' with
    | none => rfl
    | some k' => obtain ⟨q, hq, -⟩ := osem_eq k'; rw [show csem (some k') = osem k' from rfl, hq] at h; cases h
  | some k =>
    cases k' with
    | none => obtain ⟨q, hq, -⟩ := osem_eq k; rw [show csem (some k) = osem k from rfl, hq] at h; cases h
    | some k' => exact congrArg some (osem_inj h)

/-- The cell of device `ck.1` on semaphore `ck.2`. -/
abbrev kcell (ck : Dev nD × Option (Fin 3 × Dev nD)) : GSem nD τ sig := ((ck.1 : Thread nD τ), csem ck.2)

theorem kcell_inj : Function.Injective kcell := fun ck ck' h => by
  have h1 : ck.1 = ck'.1 := congrArg (fun g : GSem nD τ sig => g.1.1) h
  exact Prod.ext h1 (csem_inj (congrArg Prod.snd h))

/-! ## The elements of the pieces -/

theorem wRow_emb (j : Dev nD) (a : Fin 128) (b : Fin 2048) :
    (wRow j).view.emb (ix2 a b) = ix2 (⟨128 * j.val + a.val, by have := j.isLt; simp only [nD] at this; omega⟩ : Fin 2048) b := by
  funext x; refine Fin.ext ?_
  fin_cases x
  · show 128 * j.val + 1 * a.val = 128 * j.val + a.val; omega
  · show 0 + 1 * b.val = b.val; omega

theorem bRow_emb (j : Dev nD) (a b : Fin 128) :
    (bRow j).view.emb (ix2 a b) = ix2 (⟨128 * j.val + a.val, by have := j.isLt; simp only [nD] at this; omega⟩ : Fin 2048) b := by
  funext x; refine Fin.ext ?_
  fin_cases x
  · show 128 * j.val + 1 * a.val = 128 * j.val + a.val; omega
  · show 0 + 1 * b.val = b.val; omega

theorem slotRect_emb (j : Dev nD) (a b : Fin 128) :
    (Rect.unit (s := S16x128x128) ![j.val, 0, 0] S1x128x128.size (inb_comm j)).emb (ix3 (⟨0, Nat.one_pos⟩ : Fin 1) a b) = ix3 j a b := by
  funext x; refine Fin.ext ?_
  fin_cases x
  · show j.val + 1 * 0 = j.val; omega
  · show 0 + 1 * a.val = a.val; omega
  · show 0 + 1 * b.val = b.val; omega

theorem wslotRect_emb (j : Dev nD) (a : Fin 128) (b : Fin 2048) :
    (Rect.unit (s := S16x128x2048) ![j.val, 0, 0] S1x128x2048.size (inb_wbuf j)).emb (ix3 (⟨0, Nat.one_pos⟩ : Fin 1) a b) = ix3 j a b := by
  funext x; refine Fin.ext ?_
  fin_cases x
  · show j.val + 1 * 0 = j.val; omega
  · show 0 + 1 * a.val = a.val; omega
  · show 0 + 1 * b.val = b.val; omega

theorem cSlot_emb (j : Dev nD) (a b : Fin 128) : (cSlot j).view.emb (ix2 a b) = ix3 j a b := by
  refine Eq.trans ?_ (slotRect_emb j a b)
  show (Rect.unit (s := S16x128x128) ![j.val, 0, 0] S1x128x128.size (inb_comm j)).emb (Shape.reshapeEquiv _ (ix2 a b)) = _
  exact congrArg _ (reshapeEquiv_ix2_1ab _ a b)

theorem pSlot_emb (j : Dev nD) (a : Fin 128) (b : Fin 2048) : (pSlot j).view.emb (ix2 a b) = ix3 j a b := by
  refine Eq.trans ?_ (wslotRect_emb j a b)
  show (Rect.unit (s := S16x128x2048) ![j.val, 0, 0] S1x128x2048.size (inb_wbuf j)).emb (Shape.reshapeEquiv _ (ix2 a b)) = _
  exact congrArg _ (reshapeEquiv_ix2_1ab _ a b)

/-- Every index is the one of its coordinates. -/
theorem exists_ix2 {n m : ℕ} (y : (⟨2, ![n, m]⟩ : Shape).Idx) : ∃ (a : Fin n) (b : Fin m), y = ix2 a b := ⟨y 0, y 1, eq_ix2 y⟩
theorem exists_ix3 {n m l : ℕ} (y : (⟨3, ![n, m, l]⟩ : Shape).Idx) : ∃ (a : Fin n) (b : Fin m) (d : Fin l), y = ix3 a b d :=
  ⟨y 0, y 1, y 2, eq_ix3 y⟩

/-- The element sets: a row block is the rows it says, a slot the elements with that first coordinate. -/
abbrev wSet (j : Dev nD) : Finset S2048x2048.Idx := (wRow j).view.set
abbrev bSet (j : Dev nD) : Finset S2048x128.Idx := (bRow j).view.set
abbrev cSet (j : Dev nD) : Finset S16x128x128.Idx := (cSlot j).view.set
abbrev pSet (j : Dev nD) : Finset S16x128x2048.Idx := (pSlot j).view.set

theorem mem_wSet {j : Dev nD} {i : S2048x2048.Idx} : i ∈ wSet j ↔ (i 0).val / 128 = j.val := by
  constructor
  · intro h
    obtain ⟨y, -, rfl⟩ := Finset.mem_map.mp h
    obtain ⟨a, b, rfl⟩ := exists_ix2 y
    rw [wRow_emb]
    show (128 * j.val + a.val) / 128 = j.val
    omega
  · obtain ⟨a, b, rfl⟩ := exists_ix2 i
    intro h
    change a.val / 128 = j.val at h
    refine Finset.mem_map.mpr ⟨ix2 (⟨a.val % 128, by omega⟩ : Fin 128) b, Finset.mem_univ _, ?_⟩
    rw [wRow_emb]
    congr 1; refine Fin.ext ?_; show 128 * j.val + a.val % 128 = a.val; omega

theorem mem_bSet {j : Dev nD} {i : S2048x128.Idx} : i ∈ bSet j ↔ (i 0).val / 128 = j.val := by
  constructor
  · intro h
    obtain ⟨y, -, rfl⟩ := Finset.mem_map.mp h
    obtain ⟨a, b, rfl⟩ := exists_ix2 y
    rw [bRow_emb]
    show (128 * j.val + a.val) / 128 = j.val
    omega
  · obtain ⟨a, b, rfl⟩ := exists_ix2 i
    intro h
    change a.val / 128 = j.val at h
    refine Finset.mem_map.mpr ⟨ix2 (⟨a.val % 128, by omega⟩ : Fin 128) b, Finset.mem_univ _, ?_⟩
    rw [bRow_emb]
    congr 1; refine Fin.ext ?_; show 128 * j.val + a.val % 128 = a.val; omega

theorem mem_cSet {j : Dev nD} {i : S16x128x128.Idx} : i ∈ cSet j ↔ i 0 = j := by
  constructor
  · intro h
    obtain ⟨y, -, rfl⟩ := Finset.mem_map.mp h
    obtain ⟨a, b, rfl⟩ := exists_ix2 y
    rw [cSlot_emb]
  · obtain ⟨j', a, b, rfl⟩ := exists_ix3 i
    intro h
    have h : j' = j := h
    subst h
    exact Finset.mem_map.mpr ⟨ix2 a b, Finset.mem_univ _, cSlot_emb j' a b⟩

theorem mem_pSet {j : Dev nD} {i : S16x128x2048.Idx} : i ∈ pSet j ↔ i 0 = j := by
  constructor
  · intro h
    obtain ⟨y, -, rfl⟩ := Finset.mem_map.mp h
    obtain ⟨a, b, rfl⟩ := exists_ix2 y
    rw [pSlot_emb]
  · obtain ⟨j', a, b, rfl⟩ := exists_ix3 i
    intro h
    have h : j' = j := h
    subst h
    exact Finset.mem_map.mpr ⟨ix2 a b, Finset.mem_univ _, pSlot_emb j' a b⟩

theorem wSet_disjoint {j j' : Dev nD} (h : j ≠ j') : Disjoint (wSet j) (wSet j') :=
  Finset.disjoint_left.mpr fun i hi hi' => h (Fin.ext ((mem_wSet.mp hi).symm.trans (mem_wSet.mp hi')))
theorem bSet_disjoint {j j' : Dev nD} (h : j ≠ j') : Disjoint (bSet j) (bSet j') :=
  Finset.disjoint_left.mpr fun i hi hi' => h (Fin.ext ((mem_bSet.mp hi).symm.trans (mem_bSet.mp hi')))
theorem cSet_disjoint {j j' : Dev nD} (h : j ≠ j') : Disjoint (cSet j) (cSet j') :=
  Finset.disjoint_left.mpr fun i hi hi' => h ((mem_cSet.mp hi).symm.trans (mem_cSet.mp hi'))
theorem pSet_disjoint {j j' : Dev nD} (h : j ≠ j') : Disjoint (pSet j) (pSet j') :=
  Finset.disjoint_left.mpr fun i hi hi' => h ((mem_pSet.mp hi).symm.trans (mem_pSet.mp hi'))

theorem wSet_cover : Finset.univ.biUnion wSet = Finset.univ :=
  Finset.eq_univ_iff_forall.mpr fun i => Finset.mem_biUnion.mpr
    ⟨⟨(i 0).val / 128, by have h : (i 0).val < 2048 := (i 0).isLt; show _ < 16; omega⟩, Finset.mem_univ _, mem_wSet.mpr rfl⟩
theorem bSet_cover : Finset.univ.biUnion bSet = Finset.univ :=
  Finset.eq_univ_iff_forall.mpr fun i => Finset.mem_biUnion.mpr
    ⟨⟨(i 0).val / 128, by have h : (i 0).val < 2048 := (i 0).isLt; show _ < 16; omega⟩, Finset.mem_univ _, mem_bSet.mpr rfl⟩
theorem cSet_cover : Finset.univ.biUnion cSet = Finset.univ :=
  Finset.eq_univ_iff_forall.mpr fun i => Finset.mem_biUnion.mpr ⟨i 0, Finset.mem_univ _, mem_cSet.mpr rfl⟩
theorem pSet_cover : Finset.univ.biUnion pSet = Finset.univ :=
  Finset.eq_univ_iff_forall.mpr fun i => Finset.mem_biUnion.mpr ⟨i 0, Finset.mem_univ _, mem_pSet.mpr rfl⟩

/-! ## The contents -/

section Contents

variable (X : Dev nD → S2048x128.Idx → Elt F .f32) (Wm : Dev nD → S2048x2048.Idx → Elt F .f32)

/-- `xbf` on device `c`: its columns of `x`, rounded. -/
def xbAll (c : Dev nD) : S2048x128.Idx → Elt F .bf16 := k0_pay1 (X c)

/-- `comm` on device `c`, full: slot `j` is device `j`'s row block for `c`. -/
def commAll (c : Dev nD) : S16x128x128.Idx → Elt F .bf16 := fun i =>
  xbAll X (i 0) (ix2 (⟨128 * c.val + (i 1).val, by
    have h := c.isLt; have h1 : (i 1).val < 128 := (i 1).isLt; simp only [nD] at h; omega⟩ : Fin 2048) (i 2))

/-- `wbuf` on device `c`, full: slot `j` is row block `j` of `w`. -/
def wbufAll (c : Dev nD) : S16x128x2048.Idx → Elt F .f32 := fun i =>
  Wm c (ix2 (⟨128 * (i 0).val + (i 1).val, by
    have h : (i 0).val < 16 := (i 0).isLt; have h1 : (i 1).val < 128 := (i 1).isLt; omega⟩ : Fin 2048) (i 2))

/-- Device `c`'s row block for `d` copied into slot `c` of `d`'s `comm`, whatever it held: `comm` full, on the slot. -/
theorem comm_landed (c d : Dev nD) (fd : S16x128x128.Idx → Elt F .bf16) :
    ∀ i ∈ cSet c, (cSlot c).view.write (Elt F) fd ((bRow d).view.read (Elt F) (xbAll X c)) Finset.univ i = commAll X d i := by
  intro i hi
  obtain ⟨y, -, rfl⟩ := Finset.mem_map.mp hi
  refine (View.write_emb_of_mem _ _ (Finset.mem_univ y)).trans ((cast_eq _ _).trans ?_)
  obtain ⟨a, b, rfl⟩ := exists_ix2 y
  rw [cSlot_emb]
  show xbAll X c ((bRow d).view.emb (ix2 a b)) = _
  rw [bRow_emb]; rfl

/-- Row block `j` of `w` copied into slot `j` of `wbuf`, whatever it held: `wbuf` full, on the slot. -/
theorem wbuf_landed (c j : Dev nD) (fd : S16x128x2048.Idx → Elt F .f32) :
    ∀ i ∈ pSet j, (pSlot j).view.write (Elt F) fd ((wRow j).view.read (Elt F) (Wm c)) Finset.univ i = wbufAll Wm c i := by
  intro i hi
  obtain ⟨y, -, rfl⟩ := Finset.mem_map.mp hi
  refine (View.write_emb_of_mem _ _ (Finset.mem_univ y)).trans ((cast_eq _ _).trans ?_)
  obtain ⟨a, b, rfl⟩ := exists_ix2 y
  rw [pSlot_emb]
  show Wm c ((wRow j).view.emb (ix2 a b)) = _
  rw [wRow_emb]; rfl

/-- Slot `j` of a full `comm` and of a full `wbuf`, as the kernel loads them. -/
def commBlk (c j : Dev nD) : Vec F S1x128x128 .bf16 :=
  cM.view.readAt (Elt F) (Rect.unit (s := S16x128x128) ![j.val, 0, 0] S1x128x128.size (inb_comm j)).toLoadRect (commAll X c)
def wbufBlk (c j : Dev nD) : Vec F S1x128x2048 .f32 :=
  pM.view.readAt (Elt F) (Rect.unit (s := S16x128x2048) ![j.val, 0, 0] S1x128x2048.size (inb_wbuf j)).toLoadRect (wbufAll Wm c)

/-- The row block of `xbf` that the kernel keeps for itself, loaded, reshaped and stored into slot `c` of `comm`. -/
theorem comm_own (c : Dev nD) (fd : S16x128x128.Idx → Elt F .bf16) :
    ∀ i ∈ cSet c, (cM.access (Rect.unit (s := S16x128x128) ![c.val, 0, 0] S1x128x128.size (inb_comm c)) : View sig .tc _ _ _).write (Elt F) fd
      (k0_pay2 (bM.view.readAt (Elt F) (Rect.unit (s := S2048x128) ![128 * c.val, 0] S128x128.size (inb_slab c)).toLoadRect (xbAll X c)))
      Finset.univ i = commAll X c i := by
  intro i hi
  obtain ⟨y, -, rfl⟩ := Finset.mem_map.mp hi
  obtain ⟨a, b, rfl⟩ := exists_ix2 y
  rw [cSlot_emb, ← slotRect_emb c]
  refine (View.write_emb_of_mem (v := (cM.access (Rect.unit (s := S16x128x128) ![c.val, 0, 0] S1x128x128.size (inb_comm c)) : View sig .tc _ _ _))
    _ _ (x := ix3 (⟨0, Nat.one_pos⟩ : Fin 1) a b) (Finset.mem_univ _)).trans ((cast_eq _ _).trans ?_)
  rw [slotRect_emb]
  show k0_pay2 (F := F) _ (ix3 (⟨0, Nat.one_pos⟩ : Fin 1) a b) = _
  unfold k0_pay2
  rw [shapeCast_ab_1ab_apply]
  show xbAll X c ((bRow c).view.emb (ix2 a b)) = _
  rw [bRow_emb]; rfl

end Contents

end Cert.Exchange

end
-- ==== Proof.Schedule.lean ====
/-
# The protocol

Every semaphore is used for one round. On device `c`:
* the BARRIER semaphore gets one unit from each of the sixteen devices `d`, itself included, and the device waits
  for sixteen. The unit from `d ≠ c` hands over slot `c` of `d`'s `comm`, free to be written;
* RECEIVE semaphore `j ≠ c` gets one row block's bytes from device `j`'s copy, which hands over slot `j` of `comm`
  holding device `j`'s row block for `c`. Receive semaphore `c` is never used;
* SEND semaphore `j ≠ c` gets the same bytes from the device's own copy to `j`, which hands back the row block of
  `xbf` that the copy read. Send semaphore `c` is never used;
* W semaphore `j` gets the bytes of the device's own copy of row block `j` of `w`, which hands over slot `j` of
  `wbuf` holding that row block, and the row block of `w`.

At launch a device owes one unit to every barrier semaphore and one row block's bytes to receive semaphore `c` of
every other device. Barrier semaphores are below receive semaphores: when a device waits on its barrier it owes
receive semaphores only, and when it waits on any other semaphore it owes nothing.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy (duties `Unit`) and the exchange's (duties are devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (X : Dev nD → S2048x128.Idx → Elt F .f32) (Wm : Dev nD → S2048x2048.Idx → Elt F .f32)

/-! ## Amounts -/

/-- The credit of a row block of `xbf`, and of a row block of `w`. -/
abbrev N : ℕ := (cSlot 0).view.dmaCredit
abbrev NW : ℕ := (pSlot 0).view.dmaCredit
theorem N_pos : 0 < N := View.dmaCredit_pos _ (by decide)
theorem NW_pos : 0 < NW := View.dmaCredit_pos _ (by decide)
theorem credit_cSlot (j : Dev nD) : (cSlot j).view.dmaCredit = N := rfl
theorem credit_pSlot (j : Dev nD) : (pSlot j).view.dmaCredit = NW := rfl
theorem credit_bRow (j : Dev nD) : (bRow j).view.dmaCredit = N := rfl

/-! ## The pieces, held -/

def bPts (c j : Dev nD) (f : S2048x128.Idx → Elt F .bf16) : sProp 𝕄 :=
  (bRow j).view.loc (c : Thread nD τ) ↦[(bRow j).view.set]{fullShare} f
def cPts (c j : Dev nD) (f : S16x128x128.Idx → Elt F .bf16) : sProp 𝕄 :=
  (cSlot j).view.loc (c : Thread nD τ) ↦[(cSlot j).view.set]{fullShare} f
def pPts (c j : Dev nD) (f : S16x128x2048.Idx → Elt F .f32) : sProp 𝕄 :=
  (pSlot j).view.loc (c : Thread nD τ) ↦[(pSlot j).view.set]{fullShare} f
def wPts (c j : Dev nD) (f : S2048x2048.Idx → Elt F .f32) : sProp 𝕄 :=
  (wRow j).view.loc (c : Thread nD τ) ↦[(wRow j).view.set]{fullShare} f

omit [FloatOps F] in
instance bPts_storable (c j : Dev nD) (f) : BI.Storable (upEmb : UEmb _ 𝕄) (bPts (F := F) c j f) := by unfold bPts; infer_instance
omit [FloatOps F] in
instance cPts_storable (c j : Dev nD) (f) : BI.Storable (upEmb : UEmb _ 𝕄) (cPts (F := F) c j f) := by unfold cPts; infer_instance
omit [FloatOps F] in
instance pPts_storable (c j : Dev nD) (f) : BI.Storable (upEmb : UEmb _ 𝕄) (pPts (F := F) c j f) := by unfold pPts; infer_instance
omit [FloatOps F] in
instance wPts_storable (c j : Dev nD) (f) : BI.Storable (upEmb : UEmb _ 𝕄) (wPts (F := F) c j f) := by unfold wPts; infer_instance

/-! ## The schedule -/

open Classical in
/-- Which of the forty-nine semaphores this is, if any of them. -/
def which (sm : SemLoc sig) : Option (Option (Fin 3 × Dev nD)) := if h : ∃ k, csem k = sm then some h.choose else none

theorem which_csem (k : Option (Fin 3 × Dev nD)) : which (csem k) = some k := by
  have h : ∃ k', csem k' = csem k := ⟨k, rfl⟩
  unfold which; rw [dif_pos h]; exact congrArg some (csem_inj h.choose_spec)

theorem which_bar : which (.reg barS) = some none := which_csem none
theorem which_send (j : Dev nD) : which (.dma (sendS j)) = some (some (0, j)) := which_csem (some (0, j))
theorem which_recv (j : Dev nD) : which (.dma (recvS j)) = some (some (1, j)) := which_csem (some (1, j))
theorem which_w (j : Dev nD) : which (.dma (wS j)) = some (some (2, j)) := which_csem (some (2, j))

/-- The staging semaphores are none of them. -/
theorem which_low (q : DmaSem sig) (h : q.val < 2) : which (.dma q) = none := by
  unfold which
  rw [dif_neg]
  rintro ⟨k, hk⟩
  cases k with
  | none => cases hk
  | some k =>
    obtain ⟨q', hq', hv⟩ := osem_eq k
    rw [show csem (some k) = osem k from rfl, hq'] at hk
    have e : q' = q := by injection hk
    have e' : q'.val = q.val := congrArg Fin.val e
    omega

/-- The duties of semaphore `k` of device `c`; what a duty adds to it; what it hands to `c`. -/
def dutiesOf (c : Dev nD) : Option (Option (Fin 3 × Dev nD)) → Finset (Dev nD)
  | none => ∅
  | some none => Finset.univ
  | some (some (2, _)) => {0}
  | some (some (_, j)) => if j = c then ∅ else {0}

def amountOf : Option (Option (Fin 3 × Dev nD)) → ℕ
  | some none => 1
  | some (some (2, _)) => NW
  | _ => N

def barPay (c d : Dev nD) : sProp 𝕄 := if d = c then iprop(emp) else iprop(∃ f, cPts (F := F) d c f)
def wPay (c j : Dev nD) : sProp 𝕄 := iprop(pPts c j (wbufAll Wm c) ∗ wPts c j (Wm c))

def payOf (c d : Dev nD) : Option (Option (Fin 3 × Dev nD)) → sProp 𝕄
  | none => iprop(emp)
  | some none => barPay c d
  | some (some (0, j)) => bPts c j (xbAll X c)
  | some (some (1, j)) => cPts c j (commAll X c)
  | some (some (2, j)) => wPay Wm c j

/-- One round, round 0. -/
def rd : Rounds.Schedule (GSem nD τ sig) (Dev nD) 𝕄 where
  duties g r := if r = 0 ∧ g.1.2 = .tc then dutiesOf g.1.1 (which g.2) else ∅
  unitless _ := False
  amount g _ _ := amountOf (which g.2)
  payload g _ d := payOf X Wm g.1.1 d (which g.2)
  amount_pos g _ _ _ := by
    unfold amountOf
    split
    · exact Nat.one_pos
    · exact NW_pos
    · exact N_pos

instance rd_payload_storable (g : GSem nD τ sig) (r : ℕ) (d : Dev nD) :
    BI.Storable (upEmb : UEmb _ 𝕄) ((rd (F := F) X Wm).payload g r d) := by
  show BI.Storable upEmb (payOf X Wm g.1.1 d (which g.2))
  unfold payOf barPay wPay
  (repeat' split) <;> infer_instance

section Tables
variable (c j : Dev nD)

theorem duties_at (k : Option (Fin 3 × Dev nD)) : (rd (F := F) X Wm).duties (kcell (c, k)) 0 = dutiesOf c (some k) := by
  dsimp only [rd]; rw [if_pos ⟨rfl, rfl⟩, which_csem]
theorem duties_later (g : GSem nD τ sig) (r : ℕ) (hr : 1 ≤ r) : (rd (F := F) X Wm).duties g r = ∅ := by
  dsimp only [rd]; rw [if_neg fun h => by omega]
/-- A cell without duties has none from round 0 on. -/
theorem duties_unused (a : Fin 3) (ha : a ≠ 2) (r : ℕ) (_ : 0 ≤ r) : (rd (F := F) X Wm).duties (kcell (c, some (a, c))) r = ∅ := by
  rcases Nat.eq_zero_or_pos r with rfl | h
  · rw [duties_at]
    fin_cases a
    · exact if_pos rfl
    · exact if_pos rfl
    · exact absurd rfl ha
  · exact duties_later X Wm _ r h
theorem amount_at (k : Option (Fin 3 × Dev nD)) (r : ℕ) (d : Dev nD) : (rd (F := F) X Wm).amount (kcell (c, k)) r d = amountOf (some k) := by
  dsimp only [rd]; rw [which_csem]
theorem payload_at (k : Option (Fin 3 × Dev nD)) (r : ℕ) (d : Dev nD) :
    (rd (F := F) X Wm).payload (kcell (c, k)) r d = payOf X Wm c d (some k) := by
  dsimp only [rd]; rw [which_csem]

theorem duties_bar : (rd (F := F) X Wm).duties (barCell c) 0 = Finset.univ := duties_at X Wm c none
theorem duties_send (h : j ≠ c) : (rd (F := F) X Wm).duties (sendCell c j) 0 = {0} := (duties_at X Wm c (some (0, j))).trans (if_neg h)
theorem duties_recv (h : j ≠ c) : (rd (F := F) X Wm).duties (recvCell c j) 0 = {0} := (duties_at X Wm c (some (1, j))).trans (if_neg h)
theorem duties_w : (rd (F := F) X Wm).duties (wCell c j) 0 = {0} := duties_at X Wm c (some (2, j))

theorem amount_bar (d : Dev nD) : (rd (F := F) X Wm).amount (barCell c) 0 d = 1 := amount_at X Wm c none 0 d
theorem amount_send (d : Dev nD) : (rd (F := F) X Wm).amount (sendCell c j) 0 d = N := amount_at X Wm c (some (0, j)) 0 d
theorem amount_recv (d : Dev nD) : (rd (F := F) X Wm).amount (recvCell c j) 0 d = N := amount_at X Wm c (some (1, j)) 0 d
theorem amount_w (d : Dev nD) : (rd (F := F) X Wm).amount (wCell c j) 0 d = NW := amount_at X Wm c (some (2, j)) 0 d

theorem payload_bar (d : Dev nD) : (rd (F := F) X Wm).payload (barCell c) 0 d = barPay c d := payload_at X Wm c none 0 d
theorem payload_send (d : Dev nD) : (rd (F := F) X Wm).payload (sendCell c j) 0 d = bPts c j (xbAll X c) := payload_at X Wm c (some (0, j)) 0 d
theorem payload_recv (d : Dev nD) : (rd (F := F) X Wm).payload (recvCell c j) 0 d = cPts c j (commAll X c) := payload_at X Wm c (some (1, j)) 0 d
theorem payload_w (d : Dev nD) : (rd (F := F) X Wm).payload (wCell c j) 0 d = wPay Wm c j := payload_at X Wm c (some (2, j)) 0 d

theorem expect_bar : (rd (F := F) X Wm).expect (barCell c) 0 = 16 := by
  unfold Schedule.expect Schedule.amountOf
  rw [duties_bar, Finset.sum_congr rfl fun d _ => amount_bar X Wm c d, Finset.sum_const, Finset.card_univ, Fintype.card_fin, smul_eq_mul]; rfl
theorem expect_send (h : j ≠ c) : (rd (F := F) X Wm).expect (sendCell c j) 0 = N := by
  unfold Schedule.expect Schedule.amountOf; rw [duties_send X Wm c j h, Finset.sum_singleton, amount_send]
theorem expect_recv (h : j ≠ c) : (rd (F := F) X Wm).expect (recvCell c j) 0 = N := by
  unfold Schedule.expect Schedule.amountOf; rw [duties_recv X Wm c j h, Finset.sum_singleton, amount_recv]
theorem expect_w : (rd (F := F) X Wm).expect (wCell c j) 0 = NW := by
  unfold Schedule.expect Schedule.amountOf; rw [duties_w, Finset.sum_singleton, amount_w]

theorem rest_bar : bigSep ((rd (F := F) X Wm).duties (barCell c) 0 \ ∅) (fun d => (rd (F := F) X Wm).payload (barCell c) 0 d)
    = bigSep Finset.univ (fun d => barPay (F := F) c d) := by
  rw [Finset.sdiff_empty, duties_bar]; exact congrArg _ (funext fun d => payload_bar X Wm c d)
theorem rest_send (h : j ≠ c) : bigSep ((rd (F := F) X Wm).duties (sendCell c j) 0 \ ∅) (fun d => (rd (F := F) X Wm).payload (sendCell c j) 0 d)
    = bPts c j (xbAll X c) := by
  rw [Finset.sdiff_empty, duties_send X Wm c j h, bigSep_singleton, payload_send]
theorem rest_recv (h : j ≠ c) : bigSep ((rd (F := F) X Wm).duties (recvCell c j) 0 \ ∅) (fun d => (rd (F := F) X Wm).payload (recvCell c j) 0 d)
    = cPts c j (commAll X c) := by
  rw [Finset.sdiff_empty, duties_recv X Wm c j h, bigSep_singleton, payload_recv]
theorem rest_w : bigSep ((rd (F := F) X Wm).duties (wCell c j) 0 \ ∅) (fun d => (rd (F := F) X Wm).payload (wCell c j) 0 d)
    = wPay Wm c j := by
  rw [Finset.sdiff_empty, duties_w, bigSep_singleton, payload_w]

end Tables

/-! ## What a device owes; the levels -/

/-- All devices, and the fifteen distances from a device to the others, in the order the kernel takes them. -/
def devs : List (Dev nD) := [0, 1, 2, 3, 4, 5, 6, 7, 8, 9, 10, 11, 12, 13, 14, 15]
def dists : List (Dev nD) := [1, 2, 3, 4, 5, 6, 7, 8, 9, 10, 11, 12, 13, 14, 15]

/-- One unit to the barrier of each device of `l`; a row block's bytes to receive semaphore `c` of each device at a
    distance in `l'`. -/
def owedBar (l : List (Dev nD)) : CellTallies nD τ sig Unit := (l.map fun d => tallyAt (barCell d) () 1).sum
def owedRecv (c : Dev nD) (l : List (Dev nD)) : CellTallies nD τ sig Unit := (l.map fun k => tallyAt (recvCell (c + k) c) () N).sum

/-- What device `c` owes at launch. -/
def O₀ (c : Dev nD) : CellTallies nD τ sig Unit := owedBar devs + owedRecv c dists

theorem owed_signal (c d : Dev nD) (l : List (Dev nD)) (O : CellTallies nD τ sig Unit) :
    owedBar (d :: l) + O = (owedBar l + O) + tallyAt (barCell d) () 1 := by
  unfold owedBar; rw [List.map_cons, List.sum_cons]; exact (add_assoc _ _ _).trans (add_comm _ _)
theorem owed_send (c k : Dev nD) (l : List (Dev nD)) :
    owedRecv c (k :: l) = owedRecv c l + tallyAt (recvCell (c + k) c) () N := by
  unfold owedRecv; rw [List.map_cons, List.sum_cons]; exact add_comm _ _

def L (g : GSem nD τ sig) : Finset Unit := if g.1.2 = .tc then {()} else ∅
/-- Barrier semaphores at 1, receive semaphores at 2, everything else at 0. -/
def levelOf : Option (Option (Fin 3 × Dev nD)) → ℕ
  | some none => 1
  | some (some (1, _)) => 2
  | _ => 0
def lv (g : GSem nD τ sig) (_ : Unit) : ℕ := levelOf (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (d : Dev nD) : lv (barCell d) () = 1 := by unfold lv; rw [which_bar]; rfl
theorem lv_recv (d j : Dev nD) : lv (recvCell d j) () = 2 := by unfold lv; rw [which_recv]; rfl

theorem owedBar_pos {l : List (Dev nD)} {g : GSem nD τ sig} {u : Unit} (h : 0 < owedBar l g u) : ∃ d, g = barCell d := by
  induction l with
  | nil => exact absurd h (Nat.lt_irrefl 0)
  | cons d l ih =>
    unfold owedBar at h ih
    rw [List.map_cons, List.sum_cons, Pi.add_apply, Finsupp.add_apply, tallyAt_apply] at h
    by_cases hg : g = barCell d ∧ u = ()
    · exact ⟨d, hg.1⟩
    · rw [if_neg hg, Nat.zero_add] at h; exact ih h

theorem owedRecv_pos {c : Dev nD} {l : List (Dev nD)} {g : GSem nD τ sig} {u : Unit} (h : 0 < owedRecv c l g u) : ∃ d, g = recvCell d c := by
  induction l with
  | nil => exact absurd h (Nat.lt_irrefl 0)
  | cons k l ih =>
    unfold owedRecv at h ih
    rw [List.map_cons, List.sum_cons, Pi.add_apply, Finsupp.add_apply, tallyAt_apply] at h
    by_cases hg : g = recvCell (c + k) c ∧ u = ()
    · exact ⟨c + k, hg.1⟩
    · rw [if_neg hg, Nat.zero_add] at h; exact ih h

theorem O₀_pos {c : Dev nD} {g : GSem nD τ sig} {u : Unit} (h : 0 < O₀ c g u) : (∃ d, g = barCell d) ∨ ∃ d, g = recvCell d c := by
  unfold O₀ at h
  rw [Pi.add_apply, Finsupp.add_apply] at h
  rcases Nat.eq_zero_or_pos (owedBar devs g u) with h0 | h0
  · rw [h0, Nat.zero_add] at h; exact .inr (owedRecv_pos h)
  · exact .inl (owedBar_pos h0)

/-- The staging semaphores may be waited on owing everything owed at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; unfold lv; rw [which_low q hq]; exact le_refl _)
      (fun g u hg => by
        rcases O₀_pos hg with ⟨d, rfl⟩ | ⟨d, rfl⟩
        · rw [lv_bar]; decide
        · rw [lv_recv]; decide)
  · rw [MayWait_zero]; iintro -; iempintro

/-- At its barrier wait a device owes receive semaphores only. -/
theorem mayWait_bar (c : Dev nD) (l : List (Dev nD)) :
    (levAts L lv : sProp 𝕄) ⊢ MayWait (c : Thread nD τ) (.reg barS) () (owedRecv c l) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp]; exact le_of_eq (lv_bar c))
    (fun g u hg => by obtain ⟨d, rfl⟩ := owedRecv_pos hg; rw [lv_recv]; decide)

end Cert.Exchange

end
-- ==== Proof.Steps.lean ====
/-
# One step of the body at a time

One theorem per kind of operation. Each says: to run the operation and what follows from a state, it is enough to run
what follows from the state after it. A state is a `∗`-chain: what every device knows (`records`), the work still to
do as a list, the work done as a list, and an untouched rest `R`. An operation takes the head of the first list
and puts it on the second, so the same theorem serves every repetition, and the body's proof is the list of its
operations.

Offsets the program computes enter as variables with an equation for their value, which is substituted.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `e` on device `c` to the postcondition `Q`. -/
abbrev run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (X : Dev nD → S2048x128.Idx → Elt F .f32) (Wm : Dev nD → S2048x2048.Idx → Elt F .f32)
variable (K : Dev nD × Option (Fin 3 × Dev nD) → ℕ)

/-! ## Regrouping a chain

`∗` is commutative and associative as an equality of assertions, so two chains of the same parts are equal. -/

instance sep_commutes : _root_.Std.Commutative (α := sProp 𝕄) BIBase.sep :=
  ⟨fun _ _ => BI.Entails.antisymm BI.sep_comm BI.sep_comm⟩
instance sep_associates : _root_.Std.Associative (α := sProp 𝕄) BIBase.sep :=
  ⟨fun _ _ _ => BI.Entails.antisymm BI.sep_assoc BI.sep_assoc'⟩

omit [FloatOps F] in
/-- The first item of a list's chain. -/
theorem list_cons (i : Dev nD) (l : List (Dev nD)) (Φ : Dev nD → sProp 𝕄) : bigSepL (i :: l) Φ = iprop(Φ i ∗ bigSepL l Φ) := bigSepL_cons i l Φ

/-! ## What every device knows -/

/-- Every cell's invariant, and that every cell is at round 0. -/
def records : sProp 𝕄 :=
  iprop(bigSep Finset.univ (fun ck => cellInv ER (rd X Wm) (K ck) (kcell ck)) ∗ bigSep Finset.univ (fun ck => reached ER (kcell ck) 0))

instance records_persistent : BI.Persistent (records X Wm K) := by unfold records; infer_instance

theorem inv_at (c : Dev nD) (k : Option (Fin 3 × Dev nD)) : records X Wm K ⊢ cellInv ER (rd X Wm) (K (c, k)) (kcell (c, k)) := by
  have h : (bigSep Finset.univ (fun ck => cellInv ER (rd X Wm) (K ck) (kcell ck)) : sProp 𝕄) ⊢ cellInv ER (rd X Wm) (K (c, k)) (kcell (c, k)) :=
    bigSep_elim (Finset.mem_univ (c, k))
  unfold records
  iintro ⟨H, -⟩
  iapply h; iexact H
theorem reached_at (c : Dev nD) (k : Option (Fin 3 × Dev nD)) : records X Wm K ⊢ reached ER (kcell (c, k)) 0 := by
  have h : (bigSep Finset.univ (fun ck => reached ER (kcell ck) 0) : sProp 𝕄) ⊢ reached ER (kcell (c, k)) 0 :=
    bigSep_elim (Finset.mem_univ (c, k))
  unfold records
  iintro ⟨-, H⟩
  iapply h; iexact H

/-! ## The items of the lists -/

variable (c : Dev nD)

/-- What the device owes, whatever it has waited for. -/
def owesAny (O : CellTallies nD τ sig Unit) : sProp 𝕄 := iprop(∃ W, owes (c : Thread nD τ) O W)

/-- Before copying row block `j` of `w`, and the credit the copy gives. -/
def wTodo (j : Dev nD) : sProp 𝕄 := iprop(wPts c j (Wm c) ∗ (∃ f, pPts c j f) ∗ dutyTok ER (wCell c j) 0 0)
def wCred (j : Dev nD) : sProp 𝕄 := cred (tallyAt (wCell c j) () NW)

/-- Before signalling device `d`. -/
def sigTodo (d : Dev nD) : sProp 𝕄 := iprop(dutyTok ER (barCell d) 0 c ∗ barPay (F := F) d c)

/-- Before sending to the device at distance `k`, and the credit the send gives. -/
def sendTodo (k : Dev nD) : sProp 𝕄 :=
  iprop(bPts c (c + k) (xbAll X c) ∗ (∃ f, cPts (c + k) c f) ∗ dutyTok ER (sendCell c (c + k)) 0 0 ∗ dutyTok ER (recvCell (c + k) c) 0 0)
def sendCred (k : Dev nD) : sProp 𝕄 := cred (tallyAt (sendCell c (c + k)) () N)

/-- Before and after waiting for the copy of row block `c + k` of `w`; for the arrival from the device at distance
    `k`; for the departure to the device at distance `k`. At distance 0 nothing arrives or departs: the slot and the
    row block are the device's own, their cells still at round 0. -/
def wWait (k : Dev nD) : sProp 𝕄 := iprop(wCred c (c + k) ∗ atPos ER (wCell c (c + k)) 0 ∅ 0)
def wGot (k : Dev nD) : sProp 𝕄 := iprop(wPay Wm c (c + k) ∗ atPos ER (wCell c (c + k)) 1 ∅ 0)
def recvWait (k : Dev nD) : sProp 𝕄 := iprop(cred (tallyAt (recvCell c (c + k)) () N) ∗ atPos ER (recvCell c (c + k)) 0 ∅ 0)
def recvGot (k : Dev nD) : sProp 𝕄 :=
  iprop(cPts c (c + k) (commAll X c) ∗ atPos ER (recvCell c (c + k)) (if k = 0 then 0 else 1) ∅ 0)
def sendWait (k : Dev nD) : sProp 𝕄 := iprop(sendCred c k ∗ atPos ER (sendCell c (c + k)) 0 ∅ 0)
def sendGot (k : Dev nD) : sProp 𝕄 :=
  iprop(bPts c (c + k) (xbAll X c) ∗ atPos ER (sendCell c (c + k)) (if k = 0 then 0 else 1) ∅ 0)

theorem add_ne {k : Dev nD} (hk : k ≠ 0) : c + k ≠ c := fun h => hk (by
  have h1 := congrArg Fin.val h
  rw [Fin.val_add] at h1
  have h2 := c.isLt; have h3 := k.isLt
  simp only [nD] at h1 h2 h3
  exact Fin.ext (by show k.val = 0; omega))
theorem ne_add {k : Dev nD} (hk : k ≠ 0) : c ≠ c + k := fun h => add_ne c hk h.symm

variable {l l' : List (Dev nD)} {c}

/-! ## The steps -/

/-- A local copy of row block `j` of `w` into slot `j` of `wbuf`. -/
theorem step_copy {α : Type} {Q : α → sProp 𝕄} {R : sProp 𝕄} (j : Dev nD) {k : PUnit → Prog (TpuEff nD τ sig (Elt F) Λ₀ .tc) α}
    {offw : Fin 2 → Nat} {offp : Fin 3 → Nat} {offs : Fin 1 → Nat}
    (hw : offw = ![128 * j.val, 0]) (hp : offp = ![j.val, 0, 0]) (hs : offs = ![j.val])
    {iw ip is hw₁ hp₁ hp₂ hs₂ hsrc hdst hty}
    (h : iprop(records X Wm K ∗ bigSepL l (wTodo Wm c) ∗ bigSepL (j :: l') (wCred c) ∗ R) ⊢ run c (k ⟨⟩) Q) :
    iprop(records X Wm K ∗ bigSepL (j :: l) (wTodo Wm c) ∗ bigSepL l' (wCred c) ∗ R)
      ⊢ run c (.op (.enqueueDma (wM.slice (Rect.unit (s := S2048x2048) offw S128x2048.size iw) hw₁)
          (.here ((pM.slice (Rect.unit (s := S16x128x2048) offp S1x128x2048.size ip) hp₁).squeeze S128x2048 hp₂))
          (.dma ((cc0_scratch5.slice (Rect.unit (s := S16) offs S1.size is)).squeeze S_ hs₂).sem) hsrc hdst hty) k) Q := by
  subst hw hp hs
  rw [list_cons] at h ⊢
  rw [show wTodo Wm c j = iprop(wPts c j (Wm c) ∗ (∃ f, pPts c j f) ∗ dutyTok ER (wCell c j) 0 0) from rfl]
  iintro ⟨#Hr, ⟨⟨Hw, ⟨%f, Hp⟩, Ht⟩, Hl⟩, Hl', HR⟩
  unfold wPts pPts
  iapply (Rounds.wp_copy_pointsTo 𝒱₀ ER (rd X Wm) (c : Thread nD τ) none (src := wRow j) (dst := pSlot j) (sem := .dma (wS j))
      (κ := K (c, some (2, j))) (r := 0) (d := 0) (fd := f)
      (by rw [duties_w]; exact Finset.mem_singleton_self _) () NW (credit_pSlot j) (amount_w X Wm c j 0)
      (by
        rw [payload_w]; unfold wPay wPts pPts
        rw [pointsTo_congr (wbuf_landed Wm c j f)])) $$ [Hw Hp Ht]
  · isplitr; · iapply (inv_at X Wm K c (some (2, j))); iexact Hr
    isplitl [Hw]; · iexact Hw
    isplitl [Hp]; · iexact Hp
    isplitl [Ht]; · iexact Ht
    iapply (reached_at X Wm K c (some (2, j))); iexact Hr
  iintro Hc
  iapply h
  isplitr; · iexact Hr
  isplitl [Hl]; · iexact Hl
  isplitl [Hc Hl']
  · isplitl [Hc]; · unfold wCred; iexact Hc
    iexact Hl'
  iexact HR

/-- The barrier signal to device `d`. -/
theorem step_signal {α : Type} {Q : α → sProp 𝕄} {R : sProp 𝕄} (d : Dev nD) {O : CellTallies nD τ sig Unit} {k : PUnit → Prog (TpuEff nD τ sig (Elt F) Λ₀ .tc) α}
    {dst : Dev nD} (hd : dst = d) {n : ℕ} (hn : n = 1)
    (h : iprop(records X Wm K ∗ bigSepL l (sigTodo c) ∗ owesAny c (owedBar l + O) ∗ R) ⊢ run c (k ⟨⟩) Q) :
    iprop(records X Wm K ∗ bigSepL (d :: l) (sigTodo c) ∗ owesAny c (owedBar (d :: l) + O) ∗ R)
      ⊢ run c (.op (.semSignal (dst : Thread nD τ) barS n) k) Q := by
  subst hd hn
  rw [list_cons]
  unfold owesAny at h ⊢
  iintro ⟨#Hr, ⟨Hd, Hl⟩, ⟨%W, HO⟩, HR⟩
  unfold sigTodo
  icases Hd with ⟨Ht, Hp⟩
  iapply (Rounds.wp_signal 𝒱₀ ER (rd X Wm) (c : Thread nD τ) none (dst := (dst : Thread nD τ)) (κ := K (dst, none))
      (d := c) (by rw [duties_bar]; exact Finset.mem_univ _) (amount_bar X Wm dst c) () (owedBar l + O) (owed_signal c dst l O)) $$ [HO Ht Hp]
  · isplitr; · iapply (inv_at X Wm K dst none); iexact Hr
    isplitl [HO]; · iexact HO
    isplitl [Ht]; · iexact Ht
    isplitl [Hp]; · rw [payload_bar]; iexact Hp
    iapply (reached_at X Wm K dst none); iexact Hr
  iintro HO
  iapply h
  isplitr; · iexact Hr
  isplitl [Hl]; · iexact Hl
  isplitl [HO]; · iexists W; iexact HO
  iexact HR

/-- The wait for the sixteen units of the barrier. -/
theorem step_barrier {α : Type} {Q : α → sProp 𝕄} {R : sProp 𝕄} {k : PUnit → Prog (TpuEff nD τ sig (Elt F) Λ₀ .tc) α} {n : ℕ} (hn : n = 16)
    (h : iprop(records X Wm K ∗ bigSep Finset.univ (fun d => barPay (F := F) c d) ∗ atPos ER (barCell c) 1 ∅ 0 ∗ owesAny c (owedRecv c l) ∗ R)
      ⊢ run c (k ⟨⟩) Q) :
    iprop(records X Wm K ∗ levAts L lv ∗ cred (tallyAt (barCell c) () 16) ∗ atPos ER (barCell c) 0 ∅ 0 ∗ owesAny c (owedRecv c l) ∗ R)
      ⊢ run c (.op (.semWait barS n) k) Q := by
  subst hn
  unfold owesAny at h ⊢
  iintro ⟨#Hr, #Hlev, Hc, Hat, ⟨%W, HO⟩, HR⟩
  iapply (Rounds.wp_wait_rest_token 𝒱₀ ER (rd X Wm) (c : Thread nD τ) none (κ := K (c, none))
      (wpE_semWait_eq 𝒱₀ (c : Thread nD τ) none Set.univ) (Set.mem_univ _) () (O := owedRecv c l) (W := W) (R := 0) (m := 0) (T := ∅)
      (by rw [expect_bar])) $$ [Hc HO Hat]
  · isplitr; · iapply (inv_at X Wm K c none); iexact Hr
    isplitl [Hc]; · iexact Hc
    isplitl [HO]; · iexact HO
    isplitr; · iapply (mayWait_bar c l); iexact Hlev
    iexact Hat
  iintro ⟨HO, Hat, -, Hpay⟩
  ihave Hp := (Entails.of_eq (rest_bar X Wm c)) $$ Hpay
  iapply h
  isplitr; · iexact Hr
  isplitl [Hp]; · iexact Hp
  isplitl [Hat]; · iexact Hat
  isplitl [HO]; · iexists _; iexact HO
  iexact HR

/-- The copy of the row block for the device at distance `k` into slot `c` of its `comm`. -/
theorem step_send {α : Type} {Q : α → sProp 𝕄} {R : sProp 𝕄} (k : Dev nD) (hk : k ≠ 0) {g : PUnit → Prog (TpuEff nD τ sig (Elt F) Λ₀ .tc) α} {dst : Dev nD} (hd : dst = c + k)
    {offb : Fin 2 → Nat} {offc : Fin 3 → Nat} {offs offr : Fin 1 → Nat}
    (hb : offb = ![128 * (c + k).val, 0]) (hc : offc = ![c.val, 0, 0]) (hs : offs = ![(c + k).val]) (hr : offr = ![c.val])
    {ib ic is ir hb₁ hc₁ hc₂ hs₂ hr₂ hsc hsrc hdst hty}
    (h : iprop(records X Wm K ∗ bigSepL l (sendTodo X c) ∗ bigSepL (k :: l') (sendCred c) ∗ owesAny c (owedRecv c l) ∗ R) ⊢ run c (g ⟨⟩) Q) :
    iprop(records X Wm K ∗ bigSepL (k :: l) (sendTodo X c) ∗ bigSepL l' (sendCred c) ∗ owesAny c (owedRecv c (k :: l)) ∗ R)
      ⊢ run c (.op (.enqueueDma (bM.slice (Rect.unit (s := S2048x128) offb S128x128.size ib) hb₁)
          (.remote (Dev.tc dst) ((cM.slice (Rect.unit (s := S16x128x128) offc S1x128x128.size ic) hc₁).squeeze S128x128 hc₂)
            (.dma ((cc0_scratch3.slice (Rect.unit (s := S16) offs S1.size is)).squeeze S_ hs₂).sem) hsc)
          (.dma ((cc0_scratch4.slice (Rect.unit (s := S16) offr S1.size ir)).squeeze S_ hr₂).sem) hsrc hdst hty) g) Q := by
  subst hd hb hc hs hr
  rw [list_cons] at h ⊢
  unfold owesAny at h ⊢
  rw [show sendTodo X c k = iprop(bPts c (c + k) (xbAll X c) ∗ (∃ f, cPts (c + k) c f) ∗ dutyTok ER (sendCell c (c + k)) 0 0
    ∗ dutyTok ER (recvCell (c + k) c) 0 0) from rfl]
  iintro ⟨#Hr, ⟨⟨Hb, ⟨%f, Hc⟩, Ht, Ht'⟩, Hl⟩, Hl', ⟨%W, HO⟩, HR⟩
  unfold bPts cPts
  iapply (Rounds.wp_send_pointsTo 𝒱₀ ER (rd X Wm) (c : Thread nD τ) none (c' := ((c + k : Dev nD) : Thread nD τ)) (src := bRow (c + k)) (dst := cSlot c)
      (sS := .dma (sendS (c + k))) (sem := .dma (recvS c)) (κ₁ := K (c, some (0, c + k))) (κ₂ := K (c + k, some (1, c)))
      (r₁ := 0) (r₂ := 0) (d₁ := 0) (d₂ := 0) (fd := f)
      (by rw [duties_send X Wm c (c + k) (add_ne c hk)]; exact Finset.mem_singleton_self _)
      (by rw [duties_recv X Wm (c + k) c (ne_add c hk)]; exact Finset.mem_singleton_self _)
      () () N (credit_cSlot c) (amount_send X Wm c (c + k) 0) (amount_recv X Wm (c + k) c 0) (owedRecv c l) (owed_send c k l) (W := W)
      (by rw [payload_send]; exact BI.Entails.refl _)
      (by rw [payload_recv]; unfold cPts; rw [pointsTo_congr (comm_landed X c (c + k) f)])) $$ [Hb Hc HO Ht Ht']
  · isplitr; · iapply (inv_at X Wm K c (some (0, c + k))); iexact Hr
    isplitr; · iapply (inv_at X Wm K (c + k) (some (1, c))); iexact Hr
    isplitl [Hb]; · iexact Hb
    isplitl [Hc]; · iexact Hc
    isplitl [HO]; · iexact HO
    isplitl [Ht]; · iexact Ht
    isplitr; · iapply (reached_at X Wm K c (some (0, c + k))); iexact Hr
    isplitl [Ht']; · iexact Ht'
    iapply (reached_at X Wm K (c + k) (some (1, c))); iexact Hr
  iintro ⟨Hcr, HO⟩
  iapply h
  isplitr; · iexact Hr
  isplitl [Hl]; · iexact Hl
  isplitl [Hcr Hl']
  · isplitl [Hcr]; · unfold sendCred; iexact Hcr
    iexact Hl'
  isplitl [HO]; · iexists W; iexact HO
  iexact HR

/-! ## The waits and the loads

From here on the device owes nothing. The state carries six lists: the copies of `w`, the arrivals and the departures,
each waited for or not. -/

variable (c) in
/-- The state once every transfer is under way. -/
def waiting (lw gw lr gr ls gs : List (Dev nD)) (R : sProp 𝕄) : sProp 𝕄 :=
  iprop(records X Wm K ∗ owesAny c 0 ∗ (bigSepL lw (wWait c) ∗ bigSepL gw (wGot Wm c)) ∗ (bigSepL lr (recvWait c) ∗ bigSepL gr (recvGot X c))
    ∗ (bigSepL ls (sendWait c) ∗ bigSepL gs (sendGot X c)) ∗ R)

/-- A wait on one of the device's own DMA cells, owing nothing: the cell's payload, and the cell at round 1. -/
theorem step_wait {α : Type} {Q : α → sProp 𝕄} {R : sProp 𝕄} {q : DmaSem sig} {M : ℕ} {k : PUnit → Prog (TpuEff nD τ sig (Elt F) Λ₀ .tc) α}
    {sp sp' : Space} {s : Shape} {e : EltTy} {src : Memref sig .tc sp s e} {dst : Memref sig .tc sp' s e} {hsrc hdst}
    (j : Option (Fin 3 × Dev nD)) (hq : kcell (c, j) = ((c : Thread nD τ), .dma q))
    (hM : dst.view.dmaCredit = M) (hx : (rd X Wm).expect (kcell (c, j)) 0 = M) {P : sProp 𝕄}
    (hP : bigSep ((rd (F := F) X Wm).duties (kcell (c, j)) 0 \ ∅) (fun d => (rd (F := F) X Wm).payload (kcell (c, j)) 0 d) = P)
    (h : iprop(records X Wm K ∗ owesAny c 0 ∗ (P ∗ atPos ER (kcell (c, j)) 1 ∅ 0) ∗ R) ⊢ run c (k ⟨⟩) Q) :
    iprop(records X Wm K ∗ owesAny c 0 ∗ (cred (tallyAt (kcell (c, j)) () M) ∗ atPos ER (kcell (c, j)) 0 ∅ 0) ∗ R)
      ⊢ run c (.op (.waitDma2 q src dst hsrc hdst) k) Q := by
  subst hM
  have hi := inv_at X Wm K c j
  rw [hq] at hi hx hP h ⊢
  unfold owesAny at h ⊢
  iintro ⟨#Hr, ⟨%W, HO⟩, ⟨Hc, Hat⟩, HR⟩
  iapply (Rounds.wp_wait_rest_token 𝒱₀ ER (rd X Wm) (c : Thread nD τ) none (κ := K (c, j))
      (wpE_waitDma2_eq 𝒱₀ (c : Thread nD τ) none Set.univ) (Set.mem_univ _) () (O := 0) (W := W) (R := 0) (m := 0) (T := ∅)
      (by rw [Nat.zero_add, hx])) $$ [Hc HO Hat]
  · isplitr; · iapply hi; iexact Hr
    isplitl [Hc]; · iexact Hc
    isplitl [HO]; · iexact HO
    isplitr; · rw [MayWait_zero]; iempintro
    iexact Hat
  iintro ⟨HO, Hat, -, Hpay⟩
  ihave Hp := (Entails.of_eq hP) $$ Hpay
  iapply h
  isplitr; · iexact Hr
  isplitl [HO]; · iexists _; iexact HO
  isplitl [Hp Hat]
  · isplitl [Hp]; · iexact Hp
    iexact Hat
  iexact HR

/-! ### On the six lists -/

variable {lw gw lr gr ls gs : List (Dev nD)}

/-- The wait for the copy of row block `c + k` of `w`. -/
theorem step_wait_w {α : Type} {Q : α → sProp 𝕄} {R : sProp 𝕄} (k : Dev nD) {offs : Fin 1 → Nat} (hs : offs = ![(c + k).val])
    {sp sp' : Space} {s : Shape} {e : EltTy} {src : Memref sig .tc sp s e} {dst : Memref sig .tc sp' s e} {is hs₂ hsrc hdst}
    {g : PUnit → Prog (TpuEff nD τ sig (Elt F) Λ₀ .tc) α} (hM : dst.view.dmaCredit = NW)
    (h : waiting X Wm K c lw (k :: gw) lr gr ls gs R ⊢ run c (g ⟨⟩) Q) :
    waiting X Wm K c (k :: lw) gw lr gr ls gs R
      ⊢ run c (.op (.waitDma2 ((cc0_scratch5.slice (Rect.unit (s := S16) offs S1.size is)).squeeze S_ hs₂).sem src dst hsrc hdst) g) Q := by
  subst hs
  have e₁ : waiting X Wm K c (k :: lw) gw lr gr ls gs R = iprop(records X Wm K ∗ owesAny c 0
      ∗ (cred (tallyAt (kcell (c, some (2, c + k))) () NW) ∗ atPos ER (kcell (c, some (2, c + k))) 0 ∅ 0)
      ∗ ((bigSepL lw (wWait c) ∗ bigSepL gw (wGot Wm c)) ∗ (bigSepL lr (recvWait c) ∗ bigSepL gr (recvGot X c))
        ∗ (bigSepL ls (sendWait c) ∗ bigSepL gs (sendGot X c)) ∗ R)) := by
    unfold waiting; rw [list_cons, show wWait c k = iprop(cred (tallyAt (kcell (c, some (2, c + k))) () NW) ∗ atPos ER (kcell (c, some (2, c + k))) 0 ∅ 0) from rfl]
    ac_rfl
  have e₂ : waiting X Wm K c lw (k :: gw) lr gr ls gs R = iprop(records X Wm K ∗ owesAny c 0
      ∗ (wPay Wm c (c + k) ∗ atPos ER (kcell (c, some (2, c + k))) 1 ∅ 0)
      ∗ ((bigSepL lw (wWait c) ∗ bigSepL gw (wGot Wm c)) ∗ (bigSepL lr (recvWait c) ∗ bigSepL gr (recvGot X c))
        ∗ (bigSepL ls (sendWait c) ∗ bigSepL gs (sendGot X c)) ∗ R)) := by
    unfold waiting; rw [list_cons, show wGot Wm c k = iprop(wPay Wm c (c + k) ∗ atPos ER (kcell (c, some (2, c + k))) 1 ∅ 0) from rfl]
    ac_rfl
  rw [e₁]
  exact step_wait X Wm K (some (2, c + k)) rfl hM (expect_w X Wm c (c + k)) (rest_w X Wm c (c + k)) (e₂ ▸ h)

/-- The wait for the arrival from the device at distance `k`. -/
theorem step_wait_recv {α : Type} {Q : α → sProp 𝕄} {R : sProp 𝕄} (k : Dev nD) (hk : k ≠ 0) {offs : Fin 1 → Nat} (hs : offs = ![(c + k).val])
    {sp sp' : Space} {s : Shape} {e : EltTy} {src : Memref sig .tc sp s e} {dst : Memref sig .tc sp' s e} {is hs₂ hsrc hdst}
    {g : PUnit → Prog (TpuEff nD τ sig (Elt F) Λ₀ .tc) α} (hM : dst.view.dmaCredit = N)
    (h : waiting X Wm K c lw gw lr (k :: gr) ls gs R ⊢ run c (g ⟨⟩) Q) :
    waiting X Wm K c lw gw (k :: lr) gr ls gs R
      ⊢ run c (.op (.waitDma2 ((cc0_scratch4.slice (Rect.unit (s := S16) offs S1.size is)).squeeze S_ hs₂).sem src dst hsrc hdst) g) Q := by
  subst hs
  have e₁ : waiting X Wm K c lw gw (k :: lr) gr ls gs R = iprop(records X Wm K ∗ owesAny c 0
      ∗ (cred (tallyAt (kcell (c, some (1, c + k))) () N) ∗ atPos ER (kcell (c, some (1, c + k))) 0 ∅ 0)
      ∗ ((bigSepL lw (wWait c) ∗ bigSepL gw (wGot Wm c)) ∗ (bigSepL lr (recvWait c) ∗ bigSepL gr (recvGot X c))
        ∗ (bigSepL ls (sendWait c) ∗ bigSepL gs (sendGot X c)) ∗ R)) := by
    unfold waiting; rw [list_cons, show recvWait c k = iprop(cred (tallyAt (kcell (c, some (1, c + k))) () N) ∗ atPos ER (kcell (c, some (1, c + k))) 0 ∅ 0) from rfl]
    ac_rfl
  have e₂ : waiting X Wm K c lw gw lr (k :: gr) ls gs R = iprop(records X Wm K ∗ owesAny c 0
      ∗ (cPts c (c + k) (commAll X c) ∗ atPos ER (kcell (c, some (1, c + k))) 1 ∅ 0)
      ∗ ((bigSepL lw (wWait c) ∗ bigSepL gw (wGot Wm c)) ∗ (bigSepL lr (recvWait c) ∗ bigSepL gr (recvGot X c))
        ∗ (bigSepL ls (sendWait c) ∗ bigSepL gs (sendGot X c)) ∗ R)) := by
    unfold waiting; rw [list_cons, show recvGot X c k = iprop(cPts c (c + k) (commAll X c) ∗ atPos ER (kcell (c, some (1, c + k))) 1 ∅ 0) by
      unfold recvGot; rw [if_neg hk]; rfl]
    ac_rfl
  rw [e₁]
  exact step_wait X Wm K (some (1, c + k)) rfl hM (expect_recv X Wm c (c + k) (add_ne c hk)) (rest_recv X Wm c (c + k) (add_ne c hk)) (e₂ ▸ h)

/-- The wait for the departure to the device at distance `k`. -/
theorem step_wait_send {α : Type} {Q : α → sProp 𝕄} {R : sProp 𝕄} (k : Dev nD) (hk : k ≠ 0) {offs : Fin 1 → Nat} (hs : offs = ![(c + k).val])
    {sp sp' : Space} {s : Shape} {e : EltTy} {src : Memref sig .tc sp s e} {dst : Memref sig .tc sp' s e} {is hs₂ hsrc hdst}
    {g : PUnit → Prog (TpuEff nD τ sig (Elt F) Λ₀ .tc) α} (hM : dst.view.dmaCredit = N)
    (h : waiting X Wm K c lw gw lr gr ls (k :: gs) R ⊢ run c (g ⟨⟩) Q) :
    waiting X Wm K c lw gw lr gr (k :: ls) gs R
      ⊢ run c (.op (.waitDma2 ((cc0_scratch3.slice (Rect.unit (s := S16) offs S1.size is)).squeeze S_ hs₂).sem src dst hsrc hdst) g) Q := by
  subst hs
  have e₁ : waiting X Wm K c lw gw lr gr (k :: ls) gs R = iprop(records X Wm K ∗ owesAny c 0
      ∗ (cred (tallyAt (kcell (c, some (0, c + k))) () N) ∗ atPos ER (kcell (c, some (0, c + k))) 0 ∅ 0)
      ∗ ((bigSepL lw (wWait c) ∗ bigSepL gw (wGot Wm c)) ∗ (bigSepL lr (recvWait c) ∗ bigSepL gr (recvGot X c))
        ∗ (bigSepL ls (sendWait c) ∗ bigSepL gs (sendGot X c)) ∗ R)) := by
    unfold waiting; rw [list_cons, show sendWait c k = iprop(cred (tallyAt (kcell (c, some (0, c + k))) () N) ∗ atPos ER (kcell (c, some (0, c + k))) 0 ∅ 0) from rfl]
    ac_rfl
  have e₂ : waiting X Wm K c lw gw lr gr ls (k :: gs) R = iprop(records X Wm K ∗ owesAny c 0
      ∗ (bPts c (c + k) (xbAll X c) ∗ atPos ER (kcell (c, some (0, c + k))) 1 ∅ 0)
      ∗ ((bigSepL lw (wWait c) ∗ bigSepL gw (wGot Wm c)) ∗ (bigSepL lr (recvWait c) ∗ bigSepL gr (recvGot X c))
        ∗ (bigSepL ls (sendWait c) ∗ bigSepL gs (sendGot X c)) ∗ R)) := by
    unfold waiting; rw [list_cons, show sendGot X c k = iprop(bPts c (c + k) (xbAll X c) ∗ atPos ER (kcell (c, some (0, c + k))) 1 ∅ 0) by
      unfold sendGot; rw [if_neg hk]; rfl]
    ac_rfl
  rw [e₁]
  exact step_wait X Wm K (some (0, c + k)) rfl hM (expect_send X Wm c (c + k) (add_ne c hk)) (rest_send X Wm c (c + k) (add_ne c hk)) (e₂ ▸ h)

/-- The load of a whole slot reads elements of the slot only. -/
theorem slot_reads (j : Dev nD) : cM.view.setOn (Rect.unit (s := S16x128x128) ![j.val, 0, 0] S1x128x128.size (inb_comm j)).toLoadRect.set ⊆ cSet j := by
  intro i hi
  obtain ⟨y, hy, rfl⟩ := Finset.mem_map.mp hi
  have h := Rect.mem_set_unit.mp hy (0 : Fin 3)
  change j.val ≤ (y 0).val ∧ (y 0).val < j.val + 1 at h
  exact mem_cSet.mpr (Fin.ext (Nat.le_antisymm (Nat.le_of_lt_succ h.2) h.1))
theorem wslot_reads (j : Dev nD) : pM.view.setOn (Rect.unit (s := S16x128x2048) ![j.val, 0, 0] S1x128x2048.size (inb_wbuf j)).toLoadRect.set ⊆ pSet j := by
  intro i hi
  obtain ⟨y, hy, rfl⟩ := Finset.mem_map.mp hi
  have h := Rect.mem_set_unit.mp hy (0 : Fin 3)
  change j.val ≤ (y 0).val ∧ (y 0).val < j.val + 1 at h
  exact mem_pSet.mpr (Fin.ext (Nat.le_antisymm (Nat.le_of_lt_succ h.2) h.1))

/-- The load of slot `c + k` of `comm`, arrived. -/
theorem step_load_comm {α : Type} {Q : α → sProp 𝕄} {R : sProp 𝕄} (k : Dev nD) {off : Fin 3 → Nat} (ho : off = ![(c + k).val, 0, 0]) {io hl}
    {g : Vec F S1x128x128 .bf16 → Prog (TpuEff nD τ sig (Elt F) Λ₀ .tc) α}
    (h : waiting X Wm K c lw gw lr (k :: gr) ls gs R ⊢ run c (g (commBlk X c (c + k))) Q) :
    waiting X Wm K c lw gw lr (k :: gr) ls gs R
      ⊢ run c (.op (.load cM (Rect.unit (s := S16x128x128) off S1x128x128.size io).toLoadRect hl) g) Q := by
  subst ho
  have e : waiting X Wm K c lw gw lr (k :: gr) ls gs R = iprop(((cSlot (c + k)).view.loc (c : Thread nD τ) ↦[(cSlot (c + k)).view.set]{fullShare} (commAll X c))
      ∗ (records X Wm K ∗ owesAny c 0 ∗ atPos ER (recvCell c (c + k)) (if k = 0 then 0 else 1) ∅ 0
        ∗ ((bigSepL lw (wWait c) ∗ bigSepL gw (wGot Wm c)) ∗ (bigSepL lr (recvWait c) ∗ bigSepL gr (recvGot X c))
        ∗ (bigSepL ls (sendWait c) ∗ bigSepL gs (sendGot X c)) ∗ R))) := by
    unfold waiting; rw [list_cons]; unfold recvGot cPts
    ac_rfl
  rw [e] at h ⊢
  iintro ⟨Hc, HR⟩
  iapply (wp_load 𝒱₀ (c : Thread nD τ) none Set.univ (m := cM) (slot_reads (c + k))) $$ Hc
  iintro Hc
  iapply h
  isplitl [Hc]; · iexact Hc
  iexact HR

/-- The load of slot `c + k` of `wbuf`, copied. -/
theorem step_load_w {α : Type} {Q : α → sProp 𝕄} {R : sProp 𝕄} (k : Dev nD) {off : Fin 3 → Nat} (ho : off = ![(c + k).val, 0, 0]) {io hl}
    {g : Vec F S1x128x2048 .f32 → Prog (TpuEff nD τ sig (Elt F) Λ₀ .tc) α}
    (h : waiting X Wm K c lw (k :: gw) lr gr ls gs R ⊢ run c (g (wbufBlk Wm c (c + k))) Q) :
    waiting X Wm K c lw (k :: gw) lr gr ls gs R
      ⊢ run c (.op (.load pM (Rect.unit (s := S16x128x2048) off S1x128x2048.size io).toLoadRect hl) g) Q := by
  subst ho
  have e : waiting X Wm K c lw (k :: gw) lr gr ls gs R = iprop(((pSlot (c + k)).view.loc (c : Thread nD τ) ↦[(pSlot (c + k)).view.set]{fullShare} (wbufAll Wm c))
      ∗ (records X Wm K ∗ owesAny c 0 ∗ wPts c (c + k) (Wm c) ∗ atPos ER (wCell c (c + k)) 1 ∅ 0
        ∗ ((bigSepL lw (wWait c) ∗ bigSepL gw (wGot Wm c)) ∗ (bigSepL lr (recvWait c) ∗ bigSepL gr (recvGot X c))
        ∗ (bigSepL ls (sendWait c) ∗ bigSepL gs (sendGot X c)) ∗ R))) := by
    unfold waiting; rw [list_cons, show wGot Wm c k = iprop(wPay Wm c (c + k) ∗ atPos ER (wCell c (c + k)) 1 ∅ 0) from rfl]; unfold wPay pPts
    ac_rfl
  rw [e] at h ⊢
  iintro ⟨Hc, HR⟩
  iapply (wp_load 𝒱₀ (c : Thread nD τ) none Set.univ (m := pM) (wslot_reads (c + k))) $$ Hc
  iintro Hc
  iapply h
  isplitl [Hc]; · iexact Hc
  iexact HR

end Cert.Exchange

end
-- ==== Proof.Lists.lean ====
/-
# Chains over all devices

A chain over every device is a chain over a list of them, in any order, and may be renumbered by the distance from a
given device. The buffers are cut into their sixteen blocks and joined again.
-/
module

public import proofs.«01_k».proof.Proof.Steps
public import Idealize.ShloMosaic.Lib.Ring

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The distances in the order in which the kernel takes what arrives: itself, then 15 down to 1. -/
def down : List (Dev nD) := [15, 14, 13, 12, 11, 10, 9, 8, 7, 6, 5, 4, 3, 2, 1]
def order : List (Dev nD) := 0 :: down

theorem dists_univ : (Finset.univ : Finset (Dev nD)) = (0 :: dists).toFinset := by decide
theorem dists_nodup : ((0 : Dev nD) :: dists).Nodup := by decide
theorem order_univ : (Finset.univ : Finset (Dev nD)) = order.toFinset := by decide
theorem order_nodup : order.Nodup := by decide
theorem devs_univ : (Finset.univ : Finset (Dev nD)) = devs.toFinset := by decide
theorem devs_nodup : devs.Nodup := by decide
theorem devs_rev_univ : (Finset.univ : Finset (Dev nD)) = devs.reverse.toFinset := by decide
theorem devs_rev_nodup : devs.reverse.Nodup := by decide
theorem order_rev_univ : (Finset.univ : Finset (Dev nD)) = order.reverse.toFinset := by decide
theorem order_rev_nodup : order.reverse.Nodup := by decide

/-- Renumbering by the distance from `c`. -/
def shift (c : Dev nD) : Dev nD ≃ Dev nD where
  toFun k := c + k
  invFun d := ⟨(d.val + (16 - c.val)) % 16, Nat.mod_lt _ (by decide)⟩
  left_inv k := by
    refine Fin.ext ?_
    show ((c + k).val + (16 - c.val)) % 16 = k.val
    rw [Fin.val_add]
    have h1 := c.isLt; have h2 := k.isLt
    simp only [nD] at h1 h2 ⊢
    omega
  right_inv d := by
    refine Fin.ext ?_
    rw [Fin.val_add]
    have h1 := c.isLt; have h2 := d.isLt
    show (c.val + (d.val + (16 - c.val)) % 16) % nD = d.val
    simp only [nD] at h1 h2 ⊢
    omega

theorem add_none (c : Dev nD) : c + 0 = c := Fin.ext (by
  rw [Fin.val_add]; have h := c.isLt; simp only [nD] at h ⊢; show (c.val + 0) % 16 = c.val; omega)

variable (c : Dev nD)

omit [FloatOps F] in
theorem univ_shift (Φ : Dev nD → sProp 𝕄) : bigSep Finset.univ Φ = bigSep Finset.univ fun k => Φ (c + k) := bigSep_univ_equiv (shift c) Φ

omit [FloatOps F] in
/-- All devices: `c`, and those at distances 1 to 15. -/
theorem univ_around (Φ : Dev nD → sProp 𝕄) : bigSep Finset.univ Φ = iprop(Φ c ∗ bigSepL dists fun k => Φ (c + k)) := by
  rw [univ_shift c, bigSep_univ_eq_bigSepL (0 :: dists) dists_univ dists_nodup, list_cons, add_none]

omit [FloatOps F] in
/-- All devices, in the order in which `c` takes what arrives. -/
theorem univ_order (Φ : Dev nD → sProp 𝕄) : bigSep Finset.univ Φ = bigSepL order fun k => Φ (c + k) := by
  rw [univ_shift c, bigSep_univ_eq_bigSepL order order_univ order_nodup]
omit [FloatOps F] in
theorem univ_devs (Φ : Dev nD → sProp 𝕄) : bigSep Finset.univ Φ = bigSepL devs Φ :=
  bigSep_univ_eq_bigSepL devs devs_univ devs_nodup Φ
omit [FloatOps F] in
theorem devs_rev (Φ : Dev nD → sProp 𝕄) : bigSepL devs.reverse Φ = bigSep Finset.univ Φ :=
  (bigSep_univ_eq_bigSepL devs.reverse devs_rev_univ devs_rev_nodup Φ).symm
omit [FloatOps F] in
theorem order_rev (Φ : Dev nD → sProp 𝕄) : bigSepL order.reverse Φ = bigSepL order Φ :=
  (bigSep_univ_eq_bigSepL order.reverse order_rev_univ order_rev_nodup Φ).symm.trans (bigSep_univ_eq_bigSepL order order_univ order_nodup Φ)
omit [FloatOps F] in
theorem down_eq (Φ : Dev nD → sProp 𝕄) : bigSepL down Φ = bigSepL dists Φ := by
  show bigSepL [15, 14, 13, 12, 11, 10, 9, 8, 7, 6, 5, 4, 3, 2, 1] Φ = bigSepL [1, 2, 3, 4, 5, 6, 7, 8, 9, 10, 11, 12, 13, 14, 15] Φ
  simp only [list_cons]
  ac_rfl

omit [FloatOps F] in
theorem list_sep (l : List (Dev nD)) (Φ Ψ : Dev nD → sProp 𝕄) : bigSepL l (fun k => iprop(Φ k ∗ Ψ k)) = iprop(bigSepL l Φ ∗ bigSepL l Ψ) := by
  induction l with
  | nil => simp only [bigSepL_nil]; exact (BI.equiv_iff.mp emp_sep).symm
  | cons k l ih => rw [list_cons, list_cons, list_cons, ih]; ac_rfl

omit [FloatOps F] in
theorem list_congr (l : List (Dev nD)) {Φ Ψ : Dev nD → sProp 𝕄} (h : ∀ k ∈ l, Φ k = Ψ k) : bigSepL l Φ = bigSepL l Ψ := by
  induction l with
  | nil => rfl
  | cons k l ih => rw [list_cons, list_cons, h k List.mem_cons_self, ih fun k hk => h k (List.mem_cons_of_mem _ hk)]

omit [FloatOps F] in
theorem emp_left (P : sProp 𝕄) : iprop(emp ∗ P) = P := BI.equiv_iff.mp emp_sep

/-! ## The buffers and their blocks -/

omit [FloatOps F] in
theorem bWhole_eq (f : S2048x128.Idx → Elt F .bf16) :
    ((c : Thread nD τ).loc cc0_scratch0 ↦{fullShare} f : sProp 𝕄) = bigSep Finset.univ fun j => bPts c j f :=
  Ring.pointsTo_blocks (ℓ := (c : Thread nD τ).loc cc0_scratch0) bSet (fun _ _ h => bSet_disjoint h) bSet_cover f
omit [FloatOps F] in
theorem cWhole_eq (f : S16x128x128.Idx → Elt F .bf16) :
    ((c : Thread nD τ).loc cc0_scratch1 ↦{fullShare} f : sProp 𝕄) = bigSep Finset.univ fun j => cPts c j f :=
  Ring.pointsTo_blocks (ℓ := (c : Thread nD τ).loc cc0_scratch1) cSet (fun _ _ h => cSet_disjoint h) cSet_cover f
omit [FloatOps F] in
theorem pWhole_eq (f : S16x128x2048.Idx → Elt F .f32) :
    ((c : Thread nD τ).loc cc0_scratch2 ↦{fullShare} f : sProp 𝕄) = bigSep Finset.univ fun j => pPts c j f :=
  Ring.pointsTo_blocks (ℓ := (c : Thread nD τ).loc cc0_scratch2) pSet (fun _ _ h => pSet_disjoint h) pSet_cover f
omit [FloatOps F] in
theorem wWhole_eq (f : S2048x2048.Idx → Elt F .f32) :
    ((c : Thread nD τ).loc main_arg1 ↦{fullShare} f : sProp 𝕄) = bigSep Finset.univ fun j => wPts c j f :=
  Ring.pointsTo_blocks (ℓ := (c : Thread nD τ).loc main_arg1) wSet (fun _ _ h => wSet_disjoint h) wSet_cover f

end Cert.Exchange

end
-- ==== Proof.Local.lean ====
/-
# The local steps, and the states between the phases

The loads and stores of the device's own buffers: rounding `x`, keeping its own row block, writing the result. Then the
states of the body: before it runs, before the sends, while it waits, after it ran.
-/
module

public import proofs.«01_k».proof.Proof.Lists

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x128.Idx → Elt F .f32) (Wm : Dev nD → S2048x2048.Idx → Elt F .f32)
variable (K : Dev nD × Option (Fin 3 × Dev nD) → ℕ) (c : Dev nD)

theorem zero_off : (![0, 0] : Fin 2 → Nat) = fun _ => 0 := by funext a; fin_cases a <;> rfl

/-! ## The whole buffers, held -/

def xPts : sProp 𝕄 := ((c : Thread nD τ).loc cc0_stg0_0) ↦{fullShare} (X c : S2048x128.Idx → Elt F .f32)
def bIs (f : S2048x128.Idx → Elt F .bf16) : sProp 𝕄 := ((c : Thread nD τ).loc cc0_scratch0) ↦{fullShare} f
def oIs (f : S128x2048.Idx → Elt F .f32) : sProp 𝕄 := ((c : Thread nD τ).loc cc0_stg1_0) ↦{fullShare} f

variable {c}

/-- Device `c`'s block of `x`. -/
theorem step_load_x {α : Type} {Q : α → sProp 𝕄} {R : sProp 𝕄} {ib hl} {g : Vec F S2048x128 .f32 → Prog (TpuEff nD τ sig (Elt F) Λ₀ .tc) α}
    (h : iprop(xPts X c ∗ R) ⊢ run c (g (X c)) Q) :
    iprop(xPts X c ∗ R) ⊢ run c (.op (.load xM (Rect.unit (s := S2048x128) ![0, 0] S2048x128.size ib).toLoadRect hl) g) Q := by
  have hv : xM.view.readAt (Elt F) (Rect.unit (s := S2048x128) ![0, 0] S2048x128.size ib).toLoadRect (X c) = X c :=
    Memref.readAt_unit_zero (Elt F) cc0_stg0_0 zero_off _ _
  unfold xPts at h ⊢
  iintro ⟨Hx, HR⟩
  iapply (wp_load 𝒱₀ (c : Thread nD τ) none Set.univ (m := xM) (Finset.subset_univ _)) $$ Hx
  iintro Hx
  rw [hv]
  iapply h
  isplitl [Hx]; · iexact Hx
  iexact HR

/-- A load of `xbf` whose value is not used. -/
theorem step_peek_b {α : Type} {Q : α → sProp 𝕄} {R : sProp 𝕄} {r : LoadRect S2048x128} {hl} {g : (r.shape.Idx → Elt F .bf16) → Prog (TpuEff nD τ sig (Elt F) Λ₀ .tc) α}
    {f : S2048x128.Idx → Elt F .bf16} (h : iprop(bIs c f ∗ R) ⊢ run c (g (bM.view.readAt (Elt F) r f)) Q) :
    iprop(bIs c f ∗ R) ⊢ run c (.op (.load bM r hl) g) Q := by
  unfold bIs at h ⊢
  iintro ⟨Hx, HR⟩
  iapply (wp_load 𝒱₀ (c : Thread nD τ) none Set.univ (m := bM) (Finset.subset_univ _)) $$ Hx
  iintro Hx
  iapply h
  isplitl [Hx]; · iexact Hx
  iexact HR

/-- The rounded block stored over all of `xbf`. -/
theorem step_store_b {α : Type} {Q : α → sProp 𝕄} {R : sProp 𝕄} {ib hx hm} {w : Vec F S2048x128 .bf16}
    {g : PUnit → Prog (TpuEff nD τ sig (Elt F) Λ₀ .tc) α}
    {f : S2048x128.Idx → Elt F .bf16} (h : iprop(bIs c w ∗ R) ⊢ run c (g ⟨⟩) Q) :
    iprop(bIs c f ∗ R) ⊢ run c (.op (.store bM (Rect.unit (s := S2048x128) ![0, 0] S2048x128.size ib) w Finset.univ hx hm) g) Q := by
  have hv : (bM.access (Rect.unit (s := S2048x128) ![0, 0] S2048x128.size ib) : View sig .tc _ _ _).write (Elt F) f w Finset.univ = w :=
    Memref.write_access_unit_zero_univ (Elt F) cc0_scratch0 zero_off _ f w
  unfold bIs at h ⊢
  iintro ⟨Hx, HR⟩
  iapply (wp_store 𝒱₀ (c : Thread nD τ) none Set.univ (m := bM) (r := Rect.unit (s := S2048x128) ![0, 0] S2048x128.size ib) (Mk := Finset.univ) (Finset.subset_univ _)) $$ Hx
  iintro Hx
  rw [hv]
  iapply h
  isplitl [Hx]; · iexact Hx
  iexact HR

/-- A load of the device's own slot of `comm` whose value is not used. -/
theorem step_peek_c {α : Type} {Q : α → sProp 𝕄} {R : sProp 𝕄} {off : Fin 3 → Nat} (ho : off = ![c.val, 0, 0]) {io hl}
    {g : Vec F S1x128x128 .bf16 → Prog (TpuEff nD τ sig (Elt F) Λ₀ .tc) α}
    {f : S16x128x128.Idx → Elt F .bf16} (h : ∀ v, iprop(cPts c c f ∗ R) ⊢ run c (g v) Q) :
    iprop(cPts c c f ∗ R) ⊢ run c (.op (.load cM (Rect.unit (s := S16x128x128) off S1x128x128.size io).toLoadRect hl) g) Q := by
  subst ho
  unfold cPts at h ⊢
  iintro ⟨Hx, HR⟩
  iapply (wp_load 𝒱₀ (c : Thread nD τ) none Set.univ (m := cM) (slot_reads c)) $$ Hx
  iintro Hx
  iapply (h _)
  isplitl [Hx]; · iexact Hx
  iexact HR

theorem slot_writes (j : Dev nD) :
    (cM.access (Rect.unit (s := S16x128x128) ![j.val, 0, 0] S1x128x128.size (inb_comm j)) : View sig .tc _ _ _).setOn Finset.univ ⊆ cSet j := by
  intro i hi
  obtain ⟨y, -, rfl⟩ := Finset.mem_map.mp hi
  refine mem_cSet.mpr ?_
  obtain ⟨u, a, b, rfl⟩ := exists_ix3 (n := 1) y
  have hu : u = ⟨0, Nat.one_pos⟩ := Fin.ext (Nat.lt_one_iff.mp u.isLt)
  subst hu
  exact congrFun (slotRect_emb j a b) 0

/-- The device's own row block, stored into its own slot. -/
theorem step_store_c {α : Type} {Q : α → sProp 𝕄} {R : sProp 𝕄} {off : Fin 3 → Nat} (ho : off = ![c.val, 0, 0]) {offb : Fin 2 → Nat} (hb : offb = ![128 * c.val, 0])
    {io hx hm ib} {g : PUnit → Prog (TpuEff nD τ sig (Elt F) Λ₀ .tc) α}
    {f : S16x128x128.Idx → Elt F .bf16} (h : iprop(cPts c c (commAll X c) ∗ R) ⊢ run c (g ⟨⟩) Q) :
    iprop(cPts c c f ∗ R) ⊢ run c (.op (.store cM (Rect.unit (s := S16x128x128) off S1x128x128.size io)
      (k0_pay2 (bM.view.readAt (Elt F) (Rect.unit (s := S2048x128) offb S128x128.size ib).toLoadRect (xbAll X c))) Finset.univ hx hm) g) Q := by
  subst ho hb
  unfold cPts at h ⊢
  iintro ⟨Hx, HR⟩
  iapply (wp_store 𝒱₀ (c : Thread nD τ) none Set.univ (m := cM) (r := Rect.unit (s := S16x128x128) ![c.val, 0, 0] S1x128x128.size io) (Mk := Finset.univ) (slot_writes c)) $$ Hx
  iintro Hx
  ihave Hx := (Entails.of_eq (show ((cM.access (Rect.unit (s := S16x128x128) ![c.val, 0, 0] S1x128x128.size io)).loc (c : Thread nD τ) ↦[cSet c]{fullShare}
    ((cM.access (Rect.unit (s := S16x128x128) ![c.val, 0, 0] S1x128x128.size io) : View sig .tc _ _ _).write (Elt F) f
      (k0_pay2 (bM.view.readAt (Elt F) (Rect.unit (s := S2048x128) ![128 * c.val, 0] S128x128.size ib).toLoadRect (xbAll X c))) Finset.univ) : sProp 𝕄)
      = ((cSlot c).view.loc (c : Thread nD τ) ↦[cSet c]{fullShare} (commAll X c)) from pointsTo_congr (comm_own X c f))) $$ Hx
  iapply h
  isplitl [Hx]; · iexact Hx
  iexact HR

/-- The load of the result's buffer, whose value is not used, and the store of the result. -/
theorem step_peek_o {α : Type} {Q : α → sProp 𝕄} {R : sProp 𝕄} {r : LoadRect S128x2048} {hl} {g : (r.shape.Idx → Elt F .f32) → Prog (TpuEff nD τ sig (Elt F) Λ₀ .tc) α}
    {f : S128x2048.Idx → Elt F .f32} (h : ∀ v, iprop(oIs c f ∗ R) ⊢ run c (g v) Q) :
    iprop(oIs c f ∗ R) ⊢ run c (.op (.load oM r hl) g) Q := by
  unfold oIs at h ⊢
  iintro ⟨Hx, HR⟩
  iapply (wp_load 𝒱₀ (c : Thread nD τ) none Set.univ (m := oM) (Finset.subset_univ _)) $$ Hx
  iintro Hx
  iapply (h _)
  isplitl [Hx]; · iexact Hx
  iexact HR
theorem step_store_o {α : Type} {Q : α → sProp 𝕄} {R : sProp 𝕄} {ib hx hm} {w : Vec F S128x2048 .f32}
    {g : PUnit → Prog (TpuEff nD τ sig (Elt F) Λ₀ .tc) α}
    {f : S128x2048.Idx → Elt F .f32} (h : iprop(oIs c w ∗ R) ⊢ run c (g ⟨⟩) Q) :
    iprop(oIs c f ∗ R) ⊢ run c (.op (.store oM (Rect.unit (s := S128x2048) ![0, 0] S128x2048.size ib) w Finset.univ hx hm) g) Q := by
  have hv : (oM.access (Rect.unit (s := S128x2048) ![0, 0] S128x2048.size ib) : View sig .tc _ _ _).write (Elt F) f w Finset.univ = w :=
    Memref.write_access_unit_zero_univ (Elt F) cc0_stg1_0 zero_off _ f w
  unfold oIs at h ⊢
  iintro ⟨Hx, HR⟩
  iapply (wp_store 𝒱₀ (c : Thread nD τ) none Set.univ (m := oM) (r := Rect.unit (s := S128x2048) ![0, 0] S128x2048.size ib) (Mk := Finset.univ) (Finset.subset_univ _)) $$ Hx
  iintro Hx
  rw [hv]
  iapply h
  isplitl [Hx]; · iexact Hx
  iexact HR

/-! ## The states -/

variable (c)

/-- The rights to the sends: for each distance, the duty on the own send semaphore and on the receiver's. -/
def sendRight (k : Dev nD) : sProp 𝕄 := iprop(dutyTok ER (sendCell c (c + k)) 0 0 ∗ dutyTok ER (recvCell (c + k) c) 0 0)

/-- The rest of the state during the copies of `w` and the local stores. -/
def later : sProp 𝕄 :=
  iprop(levAts L lv ∗ cred (tallyAt (barCell c) () 16) ∗ atPos ER (barCell c) 0 ∅ 0
    ∗ bigSepL dists (sendRight (F := F) c) ∗ bigSep Finset.univ (fun j => atPos ER (wCell c j) 0 ∅ 0)
    ∗ (bigSepL dists (recvWait c) ∗ atPos ER (recvCell c c) 0 ∅ 0)
    ∗ bigSep Finset.univ (fun j => atPos ER (sendCell c j) 0 ∅ 0))

/-- Before the body, but for the buffers `x`, `xbf`, the own slot of `comm` and the result. -/
def ready : sProp 𝕄 :=
  iprop(bigSepL devs (wTodo Wm c) ∗ bigSepL devs (sigTodo c) ∗ owesAny c (owedBar devs + owedRecv c dists) ∗ later (F := F) c)

/-- The state once every transfer is under way: nothing waited for; the own slot and the own row block at hand. -/
def under (R : sProp 𝕄) : sProp 𝕄 := waiting X Wm K c order [] down [0] dists [0] R

/-- After the stores, before the signals. -/
def stored (R : sProp 𝕄) : sProp 𝕄 :=
  iprop(records X Wm K ∗ bigSepL devs (sigTodo c) ∗ owesAny c (owedBar devs + owedRecv c dists)
    ∗ (levAts L lv ∗ cred (tallyAt (barCell c) () 16) ∗ atPos ER (barCell c) 0 ∅ 0)
    ∗ (bIs c (xbAll X c) ∗ cPts c c (commAll X c) ∗ bigSepL devs.reverse (wCred (F := F) c)
      ∗ bigSepL dists (sendRight (F := F) c) ∗ bigSep Finset.univ (fun j => atPos ER (wCell c j) 0 ∅ 0)
      ∗ (bigSepL dists (recvWait c) ∗ atPos ER (recvCell c c) 0 ∅ 0)
      ∗ bigSep Finset.univ (fun j => atPos ER (sendCell c j) 0 ∅ 0)) ∗ R)

/-- After the barrier, before the sends. -/
def sending (R : sProp 𝕄) : sProp 𝕄 :=
  iprop(records X Wm K ∗ bigSepL dists (sendTodo X c) ∗ bigSepL [] (sendCred (F := F) c) ∗ owesAny c (owedRecv c dists)
    ∗ ((bPts c c (xbAll X c) ∗ cPts c c (commAll X c) ∗ bigSepL devs.reverse (wCred (F := F) c)
      ∗ bigSep Finset.univ (fun j => atPos ER (wCell c j) 0 ∅ 0)
      ∗ (bigSepL dists (recvWait c) ∗ atPos ER (recvCell c c) 0 ∅ 0)
      ∗ bigSep Finset.univ (fun j => atPos ER (sendCell c j) 0 ∅ 0)) ∗ atPos ER (barCell c) 1 ∅ 0 ∗ R))

theorem owedBar_nil (O : CellTallies nD τ sig Unit) : owedBar [] + O = O := zero_add O
theorem owedRecv_nil : owedRecv c [] = 0 := rfl

/-- The barrier has come down: the row blocks of `xbf` and the free slots of the other devices make up the sends. -/
theorem to_sending (R : sProp 𝕄) :
    iprop(records X Wm K ∗ bigSep Finset.univ (fun d => barPay (F := F) c d) ∗ atPos ER (barCell c) 1 ∅ 0 ∗ owesAny c (owedRecv c dists)
      ∗ ((bIs c (xbAll X c) ∗ cPts c c (commAll X c) ∗ bigSepL devs.reverse (wCred (F := F) c)
      ∗ bigSepL dists (sendRight (F := F) c) ∗ bigSep Finset.univ (fun j => atPos ER (wCell c j) 0 ∅ 0)
      ∗ (bigSepL dists (recvWait c) ∗ atPos ER (recvCell c c) 0 ∅ 0)
      ∗ bigSep Finset.univ (fun j => atPos ER (sendCell c j) 0 ∅ 0)) ∗ R)) = sending X Wm K c R := by
  have hb : bIs c (xbAll X c) = (iprop(bPts c c (xbAll X c) ∗ bigSepL dists fun k => bPts c (c + k) (xbAll X c)) : sProp 𝕄) :=
    (bWhole_eq c _).trans (univ_around c _)
  have hp : bigSep Finset.univ (fun d => barPay (F := F) c d) = bigSepL dists fun k => iprop(∃ f, cPts (F := F) (c + k) c f) := by
    rw [univ_around c, show barPay (F := F) c c = iprop(emp) from if_pos rfl, emp_left]
    refine list_congr dists fun k hk => if_neg (add_ne c ?_)
    rintro rfl; exact absurd hk (by decide)
  have hs : bigSepL dists (sendTodo X c) = (iprop((bigSepL dists fun k => bPts c (c + k) (xbAll X c))
      ∗ (bigSepL dists fun k => iprop(∃ f, cPts (F := F) (c + k) c f)) ∗ bigSepL dists (sendRight (F := F) c)) : sProp 𝕄) := by
    rw [← list_sep, ← list_sep]; rfl
  unfold sending
  rw [hb, hp, hs, bigSepL_nil, show (BI.emp : sProp 𝕄) = iprop(emp) from rfl, emp_left]
  ac_rfl

/-- Every send is under way. -/
theorem to_under (R : sProp 𝕄) :
    iprop(records X Wm K ∗ bigSepL [] (sendTodo X c) ∗ bigSepL down (sendCred (F := F) c) ∗ owesAny c (owedRecv c [])
    ∗ ((bPts c c (xbAll X c) ∗ cPts c c (commAll X c) ∗ bigSepL devs.reverse (wCred (F := F) c)
      ∗ bigSep Finset.univ (fun j => atPos ER (wCell c j) 0 ∅ 0)
      ∗ (bigSepL dists (recvWait c) ∗ atPos ER (recvCell c c) 0 ∅ 0)
      ∗ bigSep Finset.univ (fun j => atPos ER (sendCell c j) 0 ∅ 0)) ∗ R)) = under X Wm K c R := by
  have hw : iprop(bigSepL devs.reverse (wCred (F := F) c) ∗ bigSep Finset.univ (fun j => atPos ER (wCell c j) 0 ∅ 0)) = (bigSepL order (wWait (F := F) c) : sProp 𝕄) := by
    rw [devs_rev, univ_order c, univ_order c (fun j => atPos ER (wCell c j) 0 ∅ 0), ← list_sep]; rfl
  have hs : iprop(bigSepL down (sendCred (F := F) c) ∗ bPts c c (xbAll X c) ∗ bigSep Finset.univ (fun j => atPos ER (sendCell c j) 0 ∅ 0))
      = (iprop(bigSepL dists (sendWait (F := F) c) ∗ bigSepL [0] (sendGot X c)) : sProp 𝕄) := by
    rw [down_eq, univ_around c, bigSepL_singleton, show sendGot X c 0 = iprop(bPts c (c + 0) (xbAll X c) ∗ atPos ER (sendCell c (c + 0)) 0 ∅ 0) from rfl, add_none,
      show bigSepL dists (sendWait (F := F) c) = iprop(bigSepL dists (sendCred (F := F) c) ∗ bigSepL dists fun k => atPos ER (sendCell c (c + k)) 0 ∅ 0) from list_sep ..]
    ac_rfl
  have hr : iprop(cPts c c (commAll X c) ∗ bigSepL dists (recvWait c) ∗ atPos ER (recvCell c c) 0 ∅ 0)
      = (iprop(bigSepL down (recvWait (F := F) c) ∗ bigSepL [0] (recvGot X c)) : sProp 𝕄) := by
    rw [down_eq, bigSepL_singleton, show recvGot X c 0 = iprop(cPts c (c + 0) (commAll X c) ∗ atPos ER (recvCell c (c + 0)) 0 ∅ 0) from rfl, add_none]
    ac_rfl
  unfold under waiting
  rw [← hw, ← hs, ← hr, owedRecv_nil, bigSepL_nil, bigSepL_nil, show (BI.emp : sProp 𝕄) = iprop(emp) from rfl, emp_left]
  have e : ∀ P : sProp 𝕄, iprop(P ∗ emp) = P := fun P => BI.equiv_iff.mp sep_emp
  rw [e]
  ac_rfl

end Cert.Exchange

end
-- ==== Proof.Walk.lean ====
/-
# The body, operation by operation

One theorem for the whole body, at a symbolic device: to run the body and what follows it, it is enough to run what
follows it from the state the body leaves. Its proof is the list of the body's operations.
-/
module

public import proofs.«01_k».proof.Proof.Local
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program's offsets, by distance -/

section Offsets
variable (c : Dev nD) {k : Dev nD} {w : BitVec 32} (hk : k ≠ 0) (hw : w = BitVec.ofNat 32 k.val)
include hk hw

/-- The word of a distance, as the generated equations count it: from 1. -/
theorem word_at : ∃ r : Fin 15, w = BitVec.ofNat 32 (1 + r.val) ∧ (c.val + r.val + 1) % 16 = (c + k).val := by
  have h0 : k.val ≠ 0 := fun h => hk (Fin.ext h)
  have h1 := k.isLt
  simp only [nD] at h1
  refine ⟨⟨k.val - 1, by omega⟩, ?_, ?_⟩
  · rw [hw]; congr 1; show k.val = 1 + (k.val - 1); omega
  · rw [Fin.val_add]; show (c.val + (k.val - 1) + 1) % 16 = (c.val + k.val) % 16; congr 1; omega
theorem at_off3 : k0_off3 c w = ![(c + k).val] := by obtain ⟨r, h, e⟩ := word_at c hk hw; rw [h, k0_off3_eq c r, e]
theorem at_off6 : k0_off6 c w = ![128 * (c + k).val, 0] := by obtain ⟨r, h, e⟩ := word_at c hk hw; rw [h, k0_off6_eq c r, e]
theorem at_off13 : k0_off13 c w = ![(c + k).val, 0, 0] := by obtain ⟨r, h, e⟩ := word_at c hk hw; rw [h, k0_off13_eq c r, e]
theorem at_off14 : k0_off14 c w = ![(c + k).val, 0, 0] := by obtain ⟨r, h, e⟩ := word_at c hk hw; rw [h, k0_off14_eq c r, e]
end Offsets

theorem own_off4 (c : Dev nD) : k0_off4 c = ![(c + 0).val] := by rw [add_none, k0_off4_eq]
theorem own_off2 (c : Dev nD) : k0_off2 c = ![(c + 0).val, 0, 0] := by rw [add_none, k0_off2_eq]
theorem own_off9 (c : Dev nD) : k0_off9 c = ![(c + 0).val, 0, 0] := by rw [add_none, k0_off9_eq]

theorem at_dev {c k : Dev nD} {n : ℕ} {h : n < nD} (e : n = (c.val + k.val) % 16) : (⟨n, h⟩ : Dev nD) = c + k :=
  Fin.ext (by rw [Fin.val_add]; exact e)

variable (X : Dev nD → S2048x128.Idx → Elt F .f32) (Wm : Dev nD → S2048x2048.Idx → Elt F .f32)
variable (K : Dev nD × Option (Fin 3 × Dev nD) → ℕ) {c : Dev nD}

/-- The partial sums: block `c`, then the blocks that arrive, in the order of `l`. -/
def partialSum (c : Dev nD) (l : List (Dev nD)) : FVec F S128x2048 .f32 :=
  l.foldl (fun a k => k0_pay4 a (commBlk X c (c + k)) (wbufBlk Wm c (c + k))) k0_pay3
/-- The result on device `c`. -/
def outOf (c : Dev nD) : FVec F S128x2048 .f32 :=
  k0_pay18 (partialSum X Wm c [0, 15, 14, 13, 12, 11, 10, 9, 8, 7, 6, 5, 4, 3, 2]) (commBlk X c (c + 1)) (wbufBlk Wm c (c + 1))

set_option maxRecDepth 20000 in
/-- The whole body: from the state before it to the state in which every semaphore has been waited for. -/
theorem walk_body {α : Type} {Q : α → sProp 𝕄} {R : sProp 𝕄} {g : PUnit → Prog (TpuEff nD τ sig (Elt F) Λ₀ .tc) α} {fb fc fo}
    (h : waiting X Wm K c [] order.reverse [] order.reverse [] (dists.reverse ++ [0]) (iprop(oIs c (outOf X Wm c) ∗ atPos ER (barCell c) 1 ∅ 0 ∗ xPts X c ∗ R))
      ⊢ run c (g ⟨⟩) Q) :
    iprop(records X Wm K ∗ ready Wm c ∗ xPts X c ∗ bIs c fb ∗ cPts c c fc ∗ oIs c fo ∗ R)
      ⊢ run c (cc0_body (F := F) xM (Memref.isWhole_whole _) wM (Memref.isWhole_whole _) oM (Memref.isWhole_whole _) bM (Memref.isWhole_whole _)
        cM (Memref.isWhole_whole _) pM (Memref.isWhole_whole _) cc0_scratch3 cc0_scratch4 cc0_scratch5 >>= g) Q := by
  rw [cc0_body_eq_skeleton]; unfold cc0_body_skel
  rw [k0_part27_eq_skeleton]; unfold k0_part27_skel
  -- the copies of `w`
  have e₁ : (iprop(records X Wm K ∗ ready Wm c ∗ xPts X c ∗ bIs c fb ∗ cPts c c fc ∗ oIs c fo ∗ R) : sProp 𝕄)
      = iprop(records X Wm K ∗ bigSepL devs (wTodo Wm c) ∗ bigSepL [] (wCred (F := F) c) ∗ (xPts X c ∗ bIs c fb ∗ cPts c c fc
        ∗ (bigSepL devs (sigTodo c) ∗ owesAny c (owedBar devs + owedRecv c dists) ∗ later (F := F) c) ∗ oIs c fo ∗ R)) := by
    rw [bigSepL_nil, show (BI.emp : sProp 𝕄) = iprop(emp) from rfl, emp_left]; unfold ready; ac_rfl
  rw [e₁]; unfold devs
  rw [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId, bind_assoc]
  iterate 16 refine step_copy X Wm K _ rfl rfl rfl ?_
  -- the stores
  have e₂ : (iprop(records X Wm K ∗ bigSepL [] (wTodo Wm c) ∗ bigSepL devs.reverse (wCred (F := F) c) ∗ (xPts X c ∗ bIs c fb ∗ cPts c c fc
        ∗ (bigSepL devs (sigTodo c) ∗ owesAny c (owedBar devs + owedRecv c dists) ∗ later (F := F) c) ∗ oIs c fo ∗ R)) : sProp 𝕄)
      = iprop(xPts X c ∗ (bIs c fb ∗ cPts c c fc ∗ records X Wm K ∗ bigSepL devs.reverse (wCred (F := F) c)
        ∗ (bigSepL devs (sigTodo c) ∗ owesAny c (owedBar devs + owedRecv c dists) ∗ later (F := F) c) ∗ oIs c fo ∗ R)) := by
    rw [bigSepL_nil, show (BI.emp : sProp 𝕄) = iprop(emp) from rfl, emp_left]; ac_rfl
  refine (Entails.of_eq e₂).trans ?_
  refine step_load_x X ?_
  rw [show ∀ T : sProp 𝕄, iprop(xPts X c ∗ bIs c fb ∗ T) = iprop(bIs c fb ∗ xPts X c ∗ T) from fun T => by ac_rfl]
  refine step_peek_b ?_
  refine step_store_b ?_
  refine step_peek_b ?_
  rw [show ∀ T : sProp 𝕄, iprop(bIs c (k0_pay1 (X c)) ∗ xPts X c ∗ cPts c c fc ∗ T) = iprop(cPts c c fc ∗ bIs c (xbAll X c) ∗ xPts X c ∗ T) from
    fun T => by unfold xbAll; ac_rfl]
  refine step_peek_c (k0_off2_eq c) fun _ => ?_
  refine step_store_c X (k0_off2_eq c) (k0_off1_eq c) ?_
  -- the signals
  have e₃ : (iprop(cPts c c (commAll X c) ∗ bIs c (xbAll X c) ∗ xPts X c ∗ records X Wm K ∗ bigSepL devs.reverse (wCred (F := F) c)
        ∗ (bigSepL devs (sigTodo c) ∗ owesAny c (owedBar devs + owedRecv c dists) ∗ later (F := F) c) ∗ oIs c fo ∗ R) : sProp 𝕄)
      = stored X Wm K c (iprop(xPts X c ∗ oIs c fo ∗ R)) := by unfold stored later; ac_rfl
  refine (Entails.of_eq e₃).trans ?_
  unfold stored; unfold devs
  rw [k0_part5_eq_skeleton, k0_part6_eq_skeleton]
  unfold k0_part5_skel k0_part6_skel
  simp only [semSignalWord, semWaitWord, Prog.lift, Prog.bind_op, Prog.bind_ret, Prog.pure_eq_ret, wp_deviceId, bind_assoc]
  iterate 16 refine step_signal X Wm K _ rfl rfl ?_
  -- the barrier
  have e₄ : (iprop(records X Wm K ∗ bigSepL [] (sigTodo c) ∗ owesAny c (owedBar [] + owedRecv c dists)
      ∗ (levAts L lv ∗ cred (tallyAt (barCell c) () 16) ∗ atPos ER (barCell c) 0 ∅ 0)
      ∗ (bIs c (xbAll X c) ∗ cPts c c (commAll X c) ∗ bigSepL devs.reverse (wCred (F := F) c)
      ∗ bigSepL dists (sendRight (F := F) c) ∗ bigSep Finset.univ (fun j => atPos ER (wCell c j) 0 ∅ 0)
      ∗ (bigSepL dists (recvWait c) ∗ atPos ER (recvCell c c) 0 ∅ 0)
      ∗ bigSep Finset.univ (fun j => atPos ER (sendCell c j) 0 ∅ 0)) ∗ (xPts X c ∗ oIs c fo ∗ R)) : sProp 𝕄)
      = iprop(records X Wm K ∗ levAts L lv ∗ cred (tallyAt (barCell c) () 16) ∗ atPos ER (barCell c) 0 ∅ 0 ∗ owesAny c (owedRecv c dists)
        ∗ ((bIs c (xbAll X c) ∗ cPts c c (commAll X c) ∗ bigSepL devs.reverse (wCred (F := F) c)
      ∗ bigSepL dists (sendRight (F := F) c) ∗ bigSep Finset.univ (fun j => atPos ER (wCell c j) 0 ∅ 0)
      ∗ (bigSepL dists (recvWait c) ∗ atPos ER (recvCell c c) 0 ∅ 0)
      ∗ bigSep Finset.univ (fun j => atPos ER (sendCell c j) 0 ∅ 0)) ∗ (xPts X c ∗ oIs c fo ∗ R))) := by
    rw [bigSepL_nil, show (BI.emp : sProp 𝕄) = iprop(emp) from rfl, emp_left, owedBar_nil]; ac_rfl
  refine (Entails.of_eq e₄).trans ?_
  refine step_barrier X Wm K rfl ?_
  -- the sends
  refine (Entails.of_eq (to_sending X Wm K c _)).trans ?_
  unfold sending; unfold dists
  rw [k0_part7_eq_skeleton, k0_part8_eq_skeleton, k0_part9_eq_skeleton, k0_part10_eq_skeleton, k0_part11_eq_skeleton]
  unfold k0_part7_skel k0_part8_skel k0_part9_skel k0_part10_skel k0_part11_skel
  simp only [semSignalWord, semWaitWord, Prog.lift, Prog.bind_op, Prog.bind_ret, Prog.pure_eq_ret, wp_deviceId, bind_assoc]
  refine step_send X Wm K 1 (by decide) (at_dev (k0_dev17_eq c)) (at_off6 c (by decide) rfl) (k0_off5_eq c) (at_off3 c (by decide) rfl) (k0_off4_eq c) ?_
  refine step_send X Wm K 2 (by decide) (at_dev (k0_dev18_eq c)) (at_off6 c (by decide) rfl) (k0_off5_eq c) (at_off3 c (by decide) rfl) (k0_off4_eq c) ?_
  refine step_send X Wm K 3 (by decide) (at_dev (k0_dev19_eq c)) (at_off6 c (by decide) rfl) (k0_off5_eq c) (at_off3 c (by decide) rfl) (k0_off4_eq c) ?_
  refine step_send X Wm K 4 (by decide) (at_dev (k0_dev20_eq c)) (at_off6 c (by decide) rfl) (k0_off5_eq c) (at_off3 c (by decide) rfl) (k0_off4_eq c) ?_
  refine step_send X Wm K 5 (by decide) (at_dev (k0_dev21_eq c)) (at_off6 c (by decide) rfl) (k0_off5_eq c) (at_off3 c (by decide) rfl) (k0_off4_eq c) ?_
  refine step_send X Wm K 6 (by decide) (at_dev (k0_dev22_eq c)) (at_off6 c (by decide) rfl) (k0_off5_eq c) (at_off3 c (by decide) rfl) (k0_off4_eq c) ?_
  refine step_send X Wm K 7 (by decide) (at_dev (k0_dev23_eq c)) (at_off6 c (by decide) rfl) (k0_off5_eq c) (at_off3 c (by decide) rfl) (k0_off4_eq c) ?_
  refine step_send X Wm K 8 (by decide) (at_dev (k0_dev24_eq c)) (at_off6 c (by decide) rfl) (k0_off5_eq c) (at_off3 c (by decide) rfl) (k0_off4_eq c) ?_
  refine step_send X Wm K 9 (by decide) (at_dev (k0_dev25_eq c)) (at_off6 c (by decide) rfl) (k0_off5_eq c) (at_off3 c (by decide) rfl) (k0_off4_eq c) ?_
  refine step_send X Wm K 10 (by decide) (at_dev (k0_dev26_eq c)) (at_off6 c (by decide) rfl) (k0_off5_eq c) (at_off3 c (by decide) rfl) (k0_off4_eq c) ?_
  refine step_send X Wm K 11 (by decide) (at_dev (k0_dev27_eq c)) (at_off6 c (by decide) rfl) (k0_off5_eq c) (at_off3 c (by decide) rfl) (k0_off4_eq c) ?_
  refine step_send X Wm K 12 (by decide) (at_dev (k0_dev28_eq c)) (at_off6 c (by decide) rfl) (k0_off5_eq c) (at_off3 c (by decide) rfl) (k0_off4_eq c) ?_
  refine step_send X Wm K 13 (by decide) (at_dev (k0_dev29_eq c)) (at_off6 c (by decide) rfl) (k0_off5_eq c) (at_off3 c (by decide) rfl) (k0_off4_eq c) ?_
  refine step_send X Wm K 14 (by decide) (at_dev (k0_dev30_eq c)) (at_off6 c (by decide) rfl) (k0_off5_eq c) (at_off3 c (by decide) rfl) (k0_off4_eq c) ?_
  refine step_send X Wm K 15 (by decide) (at_dev (k0_dev31_eq c)) (at_off6 c (by decide) rfl) (k0_off5_eq c) (at_off3 c (by decide) rfl) (k0_off4_eq c) ?_
  -- the waits, each followed by the loads of what arrived
  refine (Entails.of_eq (to_under X Wm K c _)).trans ?_
  unfold under; unfold order down dists
  rw [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part12_skel k0_part13_skel k0_part14_skel k0_part15_skel k0_part16_skel k0_part17_skel k0_part18_skel k0_part19_skel k0_part20_skel k0_part21_skel k0_part22_skel k0_part23_skel
  simp only [semSignalWord, semWaitWord, Prog.lift, Prog.bind_op, Prog.bind_ret, Prog.pure_eq_ret, wp_deviceId, bind_assoc]
  refine step_wait_w X Wm K 0 (own_off4 c) rfl ?_
  refine step_load_comm X Wm K 0 (own_off2 c) ?_
  refine step_load_w X Wm K 0 (own_off9 c) ?_
  iterate 15
    refine step_wait_w X Wm K _ (at_off3 c (by decide) rfl) rfl ?_
    refine step_wait_recv X Wm K _ (by decide) (at_off3 c (by decide) rfl) rfl ?_
    refine step_load_comm X Wm K _ (at_off13 c (by decide) rfl) ?_
    refine step_load_w X Wm K _ (at_off14 c (by decide) rfl) ?_
  -- the result
  have e₅ : ∀ f, waiting X Wm K c [] order.reverse [] order.reverse dists [0] (iprop(atPos ER (barCell c) 1 ∅ 0 ∗ xPts X c ∗ oIs c f ∗ R))
      = (iprop(oIs c f ∗ waiting X Wm K c [] order.reverse [] order.reverse dists [0] (iprop(atPos ER (barCell c) 1 ∅ 0 ∗ xPts X c ∗ R))) : sProp 𝕄) := by
    intro f; unfold waiting; ac_rfl
  refine (Entails.of_eq (e₅ fo)).trans ?_
  refine step_peek_o fun _ => ?_
  refine step_store_o ?_
  refine (Entails.of_eq (e₅ _).symm).trans ?_
  -- the send semaphores
  rw [k0_part24_eq_skeleton, k0_part25_eq_skeleton, k0_part26_eq_skeleton]
  unfold k0_part24_skel k0_part25_skel k0_part26_skel
  simp only [semSignalWord, semWaitWord, Prog.lift, Prog.bind_op, Prog.bind_ret, Prog.pure_eq_ret, wp_deviceId, bind_assoc]
  unfold dists
  iterate 15 refine step_wait_send X Wm K _ (by decide) (at_off3 c (by decide) rfl) rfl ?_
  rw [show (iprop(oIs c (outOf X Wm c) ∗ atPos ER (barCell c) 1 ∅ 0 ∗ xPts X c ∗ R) : sProp 𝕄)
    = iprop(atPos ER (barCell c) 1 ∅ 0 ∗ xPts X c ∗ oIs c (outOf X Wm c) ∗ R) from by ac_rfl] at h
  exact h

end Cert.Exchange

end
-- ==== Proof.Ends.lean ====
/-
# The ends of the body

What a device is given at launch makes up the state before its body; after the body its cells are closed, their
counters at zero, and its buffers are whole again.
-/
module

public import proofs.«01_k».proof.Proof.Walk

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x128.Idx → Elt F .f32) (Wm : Dev nD → S2048x2048.Idx → Elt F .f32)
variable (K : Dev nD × Option (Fin 3 × Dev nD) → ℕ) (c : Dev nD)

/-! ## The forty-nine cells of a device, conjoined -/

omit [FloatOps F] in
theorem univ_option (Φ : Option (Fin 3 × Dev nD) → sProp 𝕄) :
    bigSep Finset.univ Φ = iprop(Φ none ∗ bigSep Finset.univ fun k => Φ (some k)) := by
  rw [bigSep_univ_at Φ none, show Finset.univ.erase (none : Option (Fin 3 × Dev nD)) = Finset.univ.map Function.Embedding.some from ?_, bigSep_map]
  · rfl
  · ext k; cases k <;> simp

omit [FloatOps F] in
theorem univ_three (Φ : Fin 3 × Dev nD → sProp 𝕄) :
    bigSep Finset.univ Φ = iprop((bigSep Finset.univ fun j => Φ (0, j)) ∗ (bigSep Finset.univ fun j => Φ (1, j)) ∗ bigSep Finset.univ fun j => Φ (2, j)) := by
  rw [bigSep_univ_prod]; exact bigSep_univ_eq_bigSepL [0, 1, 2] (by decide) (by decide) _

omit [FloatOps F] in
theorem univ_cells (Φ : Option (Fin 3 × Dev nD) → sProp 𝕄) :
    bigSep Finset.univ Φ = iprop(Φ none ∗ (bigSep Finset.univ fun j => Φ (some (0, j))) ∗ (bigSep Finset.univ fun j => Φ (some (1, j)))
      ∗ bigSep Finset.univ fun j => Φ (some (2, j))) := by
  rw [univ_option, univ_three]

/-! ## Before the body -/

/-- The rights a device pays with: on its own `w` semaphores, on every barrier semaphore, for its sends. -/
def rights : sProp 𝕄 :=
  iprop((bigSep Finset.univ fun j => dutyTok ER (wCell c j) 0 0) ∗ (bigSep Finset.univ fun d => dutyTok ER (barCell d) 0 c)
    ∗ bigSepL dists (sendRight c))
/-- A device's positions on its own cells, and the credits it has from launch. -/
def places : sProp 𝕄 := bigSep Finset.univ fun k => atPos ER (kcell (c, k)) 0 ∅ 0
def credits : sProp 𝕄 :=
  iprop(cred (tallyAt (barCell c) () 16) ∗ bigSepL dists fun k => cred (tallyAt (recvCell c (c + k)) () N))

/-- The `w` copies: their rights, the row blocks of `w` and the slots of `wbuf`. -/
theorem make_w (f : S16x128x2048.Idx → Elt F .f32) :
    iprop((bigSep Finset.univ fun j => dutyTok ER (wCell c j) 0 0) ∗ ((c : Thread nD τ).loc main_arg1 ↦{fullShare} Wm c)
      ∗ ((c : Thread nD τ).loc cc0_scratch2 ↦{fullShare} f)) ⊢ (bigSepL devs (wTodo Wm c) : sProp 𝕄) := by
  rw [wWhole_eq, pWhole_eq, ← univ_devs, ← bigSep_sep', ← bigSep_sep']
  refine bigSep_mono fun j _ => ?_
  show iprop(dutyTok ER (wCell c j) 0 0 ∗ wPts c j (Wm c) ∗ pPts c j f) ⊢ (wTodo Wm c j : sProp 𝕄)
  unfold wTodo
  iintro ⟨Ht, Hw, Hp⟩
  isplitl [Hw]; · iexact Hw
  isplitl [Hp]; · iexists f; iexact Hp
  iexact Ht

/-- The signals: their rights and the slots of `comm` that they hand over; the device's own slot stays. -/
theorem make_sig (f : S16x128x128.Idx → Elt F .bf16) :
    iprop((bigSep Finset.univ fun d => dutyTok ER (barCell d) 0 c) ∗ ((c : Thread nD τ).loc cc0_scratch1 ↦{fullShare} f))
      ⊢ (iprop(bigSepL devs (sigTodo c) ∗ cPts c c f) : sProp 𝕄) := by
  have hs : (bigSepL devs (sigTodo c) : sProp 𝕄) = iprop((bigSep Finset.univ fun d => dutyTok ER (barCell d) 0 c) ∗ bigSep Finset.univ fun d => barPay (F := F) d c) := by
    rw [← univ_devs, ← bigSep_sep']; rfl
  have hb : (bigSep (Finset.univ.erase c) fun d => cPts c d f : sProp 𝕄) ⊢ bigSep (Finset.univ.erase c) fun d => barPay (F := F) d c := by
    refine bigSep_mono fun d hd => ?_
    rw [show barPay (F := F) d c = iprop(∃ f, cPts (F := F) c d f) from if_neg (Finset.ne_of_mem_erase hd).symm]
    show cPts (F := F) c d f ⊢ (iprop(∃ f, cPts (F := F) c d f) : sProp 𝕄)
    iintro H; iexists f; iexact H
  rw [hs, cWhole_eq, bigSep_univ_at (fun d => cPts c d f) c, bigSep_univ_at (fun d => barPay (F := F) d c) c,
    show barPay (F := F) c c = iprop(emp) from if_pos rfl, emp_left]
  iintro ⟨Ht, Hc, Hr⟩
  ihave Hr := hb $$ Hr
  isplitl [Ht Hr]
  · isplitl [Ht] <;> iassumption
  iexact Hc

/-- What the device is given makes up the state in which the body starts. -/
theorem make_ready (fb : S2048x128.Idx → Elt F .bf16) (fc : S16x128x128.Idx → Elt F .bf16) (fp : S16x128x2048.Idx → Elt F .f32) (fo : S128x2048.Idx → Elt F .f32) :
    iprop(records X Wm K ∗ rights (F := F) c ∗ places (F := F) c ∗ credits (F := F) c ∗ levAts L lv ∗ owesAny c (O₀ c) ∗ xPts X c ∗ oIs c fo
      ∗ ((c : Thread nD τ).loc main_arg1 ↦{fullShare} Wm c) ∗ ((c : Thread nD τ).loc cc0_scratch0 ↦{fullShare} fb)
      ∗ ((c : Thread nD τ).loc cc0_scratch1 ↦{fullShare} fc) ∗ ((c : Thread nD τ).loc cc0_scratch2 ↦{fullShare} fp))
      ⊢ (iprop(records X Wm K ∗ ready Wm c ∗ xPts X c ∗ bIs c fb ∗ cPts c c fc ∗ oIs c fo ∗ emp) : sProp 𝕄) := by
  have hr : (bigSepL dists (recvWait (F := F) c) : sProp 𝕄) = iprop((bigSepL dists fun k => cred (tallyAt (recvCell c (c + k)) () N))
      ∗ bigSepL dists fun k => atPos ER (recvCell c (c + k)) 0 ∅ 0) := list_sep ..
  have hp : (places c : sProp 𝕄) = iprop(atPos ER (barCell c) 0 ∅ 0 ∗ (bigSep Finset.univ fun j => atPos ER (sendCell c j) 0 ∅ 0)
      ∗ (atPos ER (recvCell c c) 0 ∅ 0 ∗ bigSepL dists fun k => atPos ER (recvCell c (c + k)) 0 ∅ 0) ∗ bigSep Finset.univ fun j => atPos ER (wCell c j) 0 ∅ 0) := by
    rw [← univ_around c fun j => atPos ER (recvCell c j) 0 ∅ 0]; exact univ_cells _
  unfold ready later rights credits
  rw [hr, hp]
  unfold bIs
  iintro ⟨#HR, ⟨Htw, Htb, Hts⟩, ⟨Hab, Has, ⟨Har, Har'⟩, Haw⟩, ⟨Hcb, Hcr⟩, #Hlev, HO, Hx, Ho, Hw, Hb, Hc, Hp⟩
  ihave Hwt := (make_w Wm c fp) $$ [Htw Hw Hp]
  · isplitl [Htw]; · iexact Htw
    isplitl [Hw] <;> iassumption
  ihave Hst := (make_sig c fc) $$ [Htb Hc]
  · isplitl [Htb] <;> iassumption
  icases Hst with ⟨Hst, Hc⟩
  isplitr; · iexact HR
  isplitl [Hwt Hst HO Hcb Hab Hts Haw Hcr Har Har' Has]
  · isplitl [Hwt]; · iexact Hwt
    isplitl [Hst]; · iexact Hst
    isplitl [HO]; · unfold O₀; iexact HO
    isplitr; · iexact Hlev
    isplitl [Hcb]; · iexact Hcb
    isplitl [Hab]; · iexact Hab
    isplitl [Hts]; · iexact Hts
    isplitl [Haw]; · iexact Haw
    isplitl [Hcr Har Har']
    · isplitr [Har]
      · isplitl [Hcr] <;> iassumption
      iexact Har
    iexact Has
  isplitl [Hx]; · iexact Hx
  isplitl [Hb]; · iexact Hb
  isplitl [Hc]; · iexact Hc
  isplitl [Ho]; · iexact Ho
  iempintro

/-! ## After the body -/

/-- Closing the cells of one array: no duty is left, so the counters are the device's again, at zero. -/
theorem close_cells (a : Fin 3) (r : Dev nD → ℕ) (h : ∀ j r', r j ≤ r' → (rd (F := F) X Wm).duties (kcell (c, some (a, j))) r' = ∅) :
    iprop(records X Wm K ∗ bigSep Finset.univ fun j => atPos ER (kcell (c, some (a, j))) (r j) ∅ 0)
      ⊢ (|={Set.univ}=> bigSep Finset.univ fun j => semVal (kcell (c, some (a, j))) 0 : sProp 𝕄) := by
  refine (bigSep_with_persistent fun j _ => ?_).trans (bigSep_fupd Finset.univ fun j => semVal (kcell (c, some (a, j))) 0)
  show iprop(records X Wm K ∗ atPos ER (kcell (c, some (a, j))) (r j) ∅ 0) ⊢ (|={Set.univ}=> semVal (kcell (c, some (a, j))) 0 : sProp 𝕄)
  iintro ⟨#HR, Ha⟩
  iapply (Rounds.cell_close ER (rd X Wm) (Set.mem_univ (K (c, some (a, j)))) (fun h => h) (R := r j) (h j))
  isplitr; · iapply (inv_at X Wm K c (some (a, j))); iexact HR
  iexact Ha

theorem round_of (k : Dev nD) : (if c + k = c then 0 else 1) = if k = 0 then 0 else 1 := by
  by_cases h : k = 0
  · subst h; rw [if_pos (add_none c), if_pos rfl]
  · rw [if_neg (add_ne c h), if_neg h]

/-- After the body: every cell closed, every buffer whole. -/
def finished : sProp 𝕄 :=
  iprop((semVal (barCell c) 0 ∗ (bigSep Finset.univ fun j => semVal (sendCell c j) 0) ∗ (bigSep Finset.univ fun j => semVal (recvCell c j) 0)
      ∗ bigSep Finset.univ fun j => semVal (wCell c j) 0)
    ∗ ((c : Thread nD τ).loc main_arg1 ↦{fullShare} Wm c) ∗ ((c : Thread nD τ).loc cc0_scratch0 ↦{fullShare} xbAll X c)
    ∗ ((c : Thread nD τ).loc cc0_scratch1 ↦{fullShare} commAll X c) ∗ ((c : Thread nD τ).loc cc0_scratch2 ↦{fullShare} wbufAll Wm c))

theorem waited (T : sProp 𝕄) : waiting X Wm K c [] order.reverse [] order.reverse [] (dists.reverse ++ [0]) T
    = iprop(records X Wm K ∗ owesAny c 0
      ∗ (((c : Thread nD τ).loc cc0_scratch2 ↦{fullShare} wbufAll Wm c) ∗ ((c : Thread nD τ).loc main_arg1 ↦{fullShare} Wm c)
        ∗ bigSep Finset.univ fun j => atPos ER (kcell (c, some (2, j))) 1 ∅ 0)
      ∗ (((c : Thread nD τ).loc cc0_scratch1 ↦{fullShare} commAll X c)
        ∗ bigSep Finset.univ fun j => atPos ER (kcell (c, some (1, j))) (if j = c then 0 else 1) ∅ 0)
      ∗ (((c : Thread nD τ).loc cc0_scratch0 ↦{fullShare} xbAll X c)
        ∗ bigSep Finset.univ fun j => atPos ER (kcell (c, some (0, j))) (if j = c then 0 else 1) ∅ 0) ∗ T) := by
  have hw : bigSepL order.reverse (wGot Wm c) = (iprop(((c : Thread nD τ).loc cc0_scratch2 ↦{fullShare} wbufAll Wm c)
      ∗ ((c : Thread nD τ).loc main_arg1 ↦{fullShare} Wm c) ∗ bigSep Finset.univ fun j => atPos ER (kcell (c, some (2, j))) 1 ∅ 0) : sProp 𝕄) := by
    rw [order_rev, pWhole_eq, wWhole_eq, ← bigSep_sep', ← bigSep_sep', univ_order c]
    refine list_congr _ fun k _ => ?_
    unfold wGot wPay; ac_rfl
  have hr : bigSepL order.reverse (recvGot X c) = (iprop(((c : Thread nD τ).loc cc0_scratch1 ↦{fullShare} commAll X c)
      ∗ bigSep Finset.univ fun j => atPos ER (kcell (c, some (1, j))) (if j = c then 0 else 1) ∅ 0) : sProp 𝕄) := by
    rw [order_rev, cWhole_eq, ← bigSep_sep', univ_order c]
    refine list_congr _ fun k _ => ?_
    rw [round_of]; rfl
  have hs : bigSepL (dists.reverse ++ [0]) (sendGot X c) = (iprop(((c : Thread nD τ).loc cc0_scratch0 ↦{fullShare} xbAll X c)
      ∗ bigSep Finset.univ fun j => atPos ER (kcell (c, some (0, j))) (if j = c then 0 else 1) ∅ 0) : sProp 𝕄) := by
    rw [← bigSep_univ_eq_bigSepL (dists.reverse ++ [0]) (by decide) (by decide), bWhole_eq, ← bigSep_sep', univ_shift c fun k => iprop(bPts c k (xbAll X c) ∗ atPos ER (kcell (c, some (0, k))) (if k = c then 0 else 1) ∅ 0)]
    refine bigSep_congr fun k _ => ?_
    rw [round_of]; rfl
  unfold waiting
  rw [hw, hr, hs]
  simp only [bigSepL_nil]
  rw [show (BI.emp : sProp 𝕄) = iprop(emp) from rfl, emp_left, emp_left, emp_left]

/-- Everything waited for: the cells close. -/
theorem finish (T : sProp 𝕄) : waiting X Wm K c [] order.reverse [] order.reverse [] (dists.reverse ++ [0]) (iprop(atPos ER (barCell c) 1 ∅ 0 ∗ T))
    ⊢ (|={Set.univ}=> iprop(finished X Wm c ∗ owesAny c 0 ∗ T) : sProp 𝕄) := by
  rw [waited]
  unfold finished
  iintro ⟨#HR, HO, ⟨Hp, Hw, Haw⟩, ⟨Hc, Har⟩, ⟨Hb, Has⟩, Hab, HT⟩
  imod (close_cells X Wm K c 2 (fun _ => 1) fun j r' h => duties_later X Wm _ r' h) $$ [Haw] with Hzw
  · isplitr; · iexact HR
    iexact Haw
  imod (close_cells X Wm K c 1 (fun j => if j = c then 0 else 1) fun j r' h => by
      by_cases e : j = c
      · subst e; exact duties_unused X Wm _ 1 (by decide) r' (Nat.zero_le _)
      · rw [if_neg e] at h; exact duties_later X Wm _ r' h) $$ [Har] with Hzr
  · isplitr; · iexact HR
    iexact Har
  imod (close_cells X Wm K c 0 (fun j => if j = c then 0 else 1) fun j r' h => by
      by_cases e : j = c
      · subst e; exact duties_unused X Wm _ 0 (by decide) r' (Nat.zero_le _)
      · rw [if_neg e] at h; exact duties_later X Wm _ r' h) $$ [Has] with Hzs
  · isplitr; · iexact HR
    iexact Has
  imod (Rounds.cell_close ER (rd X Wm) (Set.mem_univ (K (c, none))) (fun h => h) (R := 1) (duties_later X Wm (barCell c))) $$ [Hab] with Hzb
  · isplitr; · iapply (inv_at X Wm K c none); iexact HR
    iexact Hab
  imodintro
  isplitr [HO HT]
  · isplitl [Hzb Hzs Hzr Hzw]
    · isplitl [Hzb]; · iexact Hzb
      isplitl [Hzs]; · iexact Hzs
      isplitl [Hzr]; · iexact Hzr
      iexact Hzw
    isplitl [Hw]; · iexact Hw
    isplitl [Hb]; · iexact Hb
    isplitl [Hc] <;> iassumption
  isplitl [HO] <;> iassumption

end Cert.Exchange

end
-- ==== Proof.Body.lean ====
/-
# The body meets the pipeline's obligation

The grid has one point. At it the pipeline stages the device's `x` shard, runs the body, and writes the staged result back.
-/
module

public import proofs.«01_k».proof.Proof.Ends
public import proofs.«01_k».proof.Proof.Gen.KernelIdeal.Launch
public import proofs.«01_k».proof.Proof.Gen.KernelIdeal.Points
public import Idealize.ShloMosaic.Lib.Pipeline.Launch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's contents -/

/-- The `x` shard as staged, and the device's copy of `w`. -/
def xAt (c : Dev nD) : S2048x128.Idx → Elt F .f32 :=
  ((cfg0.win (0 : Fin 2)).blk t0_0).view.read (Elt F) (m ((c : Thread nD τ).loc main_arg0))
def wAt (c : Dev nD) : S2048x2048.Idx → Elt F .f32 := m ((c : Thread nD τ).loc main_arg1)

/-- What a device has from launch beside its buffers: its cells' records, its rights, places and credits. -/
def given (c : Dev nD) : sProp 𝕄 :=
  iprop((∃ K, records (xAt m) (wAt m) K ∗ rights (F := F) c ∗ places (F := F) c) ∗ credits (F := F) c ∗ levAts L lv)

/-- The scratch buffers, each at some contents. -/
def scratch (c : Dev nD) : sProp 𝕄 :=
  iprop((∃ f : S2048x128.Idx → Elt F .bf16, (c : Thread nD τ).loc cc0_scratch0 ↦{fullShare} f)
    ∗ (∃ f : S16x128x128.Idx → Elt F .bf16, (c : Thread nD τ).loc cc0_scratch1 ↦{fullShare} f)
    ∗ ∃ f : S16x128x2048.Idx → Elt F .f32, (c : Thread nD τ).loc cc0_scratch2 ↦{fullShare} f)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => outOf (xAt m) (wAt m) c
  Φ t := match t with
    | ⟨0, _⟩ => iprop(given m c ∗ ((c : Thread nD τ).loc main_arg1 ↦{fullShare} wAt m c) ∗ scratch c)
    | ⟨_ + 1, _⟩ => finished (xAt m) (wAt m) c
  q _ := fullShare
  owed t := match t with
    | ⟨0, _⟩ => O₀ c
    | ⟨_ + 1, _⟩ => 0

omit [FloatOps F] in
/-- Owning a whole buffer through its memref is its points-to. -/
theorem owns_buffer (c : Dev nD) (b : Ref sig .tc) (Y : b.ty.Contents (Elt F)) :
    (owns (Ix := Unit) (Name := ℕ) (U := UU) (Lvl := ℕ) (c : Thread nD τ) (Memref.whole b) fullShare Y : sProp 𝕄)
      = ((c : Thread nD τ).loc b ↦{fullShare} Y) := by
  unfold owns
  simp only [Memref.view_whole, View.read_whole, View.set_whole]
  refine BI.equiv_iff.mp ⟨?_, ?_⟩
  · show iprop(∃ f, ⌜f = Y⌝ ∗ ((c : Thread nD τ).loc b ↦{fullShare} f)) ⊢ ((c : Thread nD τ).loc b ↦{fullShare} Y : sProp 𝕄)
    iintro ⟨%f, %h, H⟩
    subst h
    iexact H
  · show ((c : Thread nD τ).loc b ↦{fullShare} Y : sProp 𝕄) ⊢ iprop(∃ f, ⌜f = Y⌝ ∗ ((c : Thread nD τ).loc b ↦{fullShare} f))
    iintro H
    iexists Y
    isplitr; · (ipureintro; rfl)
    iexact H

/-! ## The body -/

set_option maxRecDepth 20000 in
theorem body_eq : bodyAt0 (F := F) t0_0 = cc0_body xM (Memref.isWhole_whole _) wM (Memref.isWhole_whole _) oM (Memref.isWhole_whole _) bM (Memref.isWhole_whole _)
    cM (Memref.isWhole_whole _) pM (Memref.isWhole_whole _) cc0_scratch3 cc0_scratch4 cc0_scratch5 := rfl

/-- The body, from all that the device is given to all that it leaves. -/
theorem body_run (K : Dev nD × Option (Fin 3 × Dev nD) → ℕ) (c : Dev nD) {Q : PUnit → sProp 𝕄}
    (fb : S2048x128.Idx → Elt F .bf16) (fc : S16x128x128.Idx → Elt F .bf16) (fp : S16x128x2048.Idx → Elt F .f32) (fo : S128x2048.Idx → Elt F .f32)
    (h : iprop(finished (xAt m) (wAt m) c ∗ owesAny c 0 ∗ oIs c (outOf (xAt m) (wAt m) c) ∗ xPts (xAt m) c) ⊢ Q ⟨⟩) :
    iprop(records (xAt m) (wAt m) K ∗ rights (F := F) c ∗ places (F := F) c ∗ credits (F := F) c ∗ levAts L lv ∗ owesAny c (O₀ c) ∗ xPts (xAt m) c ∗ oIs c fo
        ∗ ((c : Thread nD τ).loc main_arg1 ↦{fullShare} wAt m c) ∗ ((c : Thread nD τ).loc cc0_scratch0 ↦{fullShare} fb)
        ∗ ((c : Thread nD τ).loc cc0_scratch1 ↦{fullShare} fc) ∗ ((c : Thread nD τ).loc cc0_scratch2 ↦{fullShare} fp))
      ⊢ run c (bodyAt0 t0_0) Q := by
  refine (make_ready (xAt m) (wAt m) K c fb fc fp fo).trans ?_
  refine Entails.trans (walk_body (xAt m) (wAt m) K (g := pure) ?_) (Entails.of_eq (by rw [Prog.bind_pure, body_eq]))
  refine (Entails.of_eq (show _ = waiting (xAt m) (wAt m) K c [] order.reverse [] order.reverse [] (dists.reverse ++ [0])
    (iprop(atPos ER (barCell c) 1 ∅ 0 ∗ (oIs c (outOf (xAt m) (wAt m) c) ∗ xPts (xAt m) c ∗ emp))) from congrArg _ (by ac_rfl))).trans ?_
  refine (finish (xAt m) (wAt m) K c _).trans ?_
  show _ ⊢ run c (.ret ⟨⟩) Q
  unfold run
  rw [wp_ret]
  refine BI.fupd_mono (.trans ?_ h)
  iintro ⟨H1, H2, H3, H4, -⟩
  isplitl [H1]; · iexact H1
  isplitl [H2]; · iexact H2
  isplitl [H3] <;> iassumption

/-- The obligation, the windows named. -/
theorem body_point (c : Dev nD) :
    iprop((dats m ρ 0 c).Φ t0_0.castSucc ∗ (dats m ρ 0 c).owesAt () t0_0.castSucc
        ∗ (∃ d, (c : Thread nD τ).loc cc0_stg0_0 ↦{fullShare} (dats m ρ 0 c).before (0 : Fin 2) t0_0 d)
        ∗ (∃ d, (c : Thread nD τ).loc cc0_stg1_0 ↦{fullShare} (dats m ρ 0 c).before (1 : Fin 2) t0_0 d))
      ⊢ run c (bodyAt0 t0_0) fun _ => iprop((dats m ρ 0 c).Φ t0_0.succ ∗ (dats m ρ 0 c).owesAt () t0_0.succ
        ∗ ((c : Thread nD τ).loc cc0_stg0_0 ↦{fullShare} xAt m c) ∗ ((c : Thread nD τ).loc cc0_stg1_0 ↦{fullShare} outOf (xAt m) (wAt m) c)) := by
  have hx (d) : (dats m ρ 0 c).before (0 : Fin 2) t0_0 d = xAt m c := by unfold Dat.before; rw [if_pos (fetch0_0 t0_0)]; rfl
  simp only [hx]
  show iprop((given m c ∗ ((c : Thread nD τ).loc main_arg1 ↦{fullShare} wAt m c) ∗ scratch c) ∗ _) ⊢ _
  unfold given scratch Dat.owesAt Pipeline.owesWithin
  rw [show (dats m ρ 0 c).owed t0_0.castSucc = O₀ c from rfl, show (dats m ρ 0 c).owed t0_0.succ = 0 from rfl]
  iintro ⟨⟨⟨⟨%K, HR, Hr, Hpl⟩, Hcr, Hlev⟩, Hw, ⟨%fb, Hb⟩, ⟨%fc, Hc⟩, ⟨%fp, Hp⟩⟩, ⟨%W, -, HO⟩, ⟨%d0, Hx⟩, ⟨%d1, Ho⟩⟩
  iapply (body_run m K c fb fc fp ((dats m ρ 0 c).before (1 : Fin 2) t0_0 d1) ?_)
  · show _ ⊢ (iprop(finished (xAt m) (wAt m) c ∗ _) : sProp 𝕄)
    unfold owesAny oIs xPts
    iintro ⟨Hf, ⟨%W', HO⟩, Ho, Hx⟩
    isplitl [Hf]; · iexact Hf
    isplitl [HO]
    · iexists W'
      isplitr; · ipureintro; exact fun _ _ => Or.inl trivial
      iexact HO
    isplitl [Hx] <;> iassumption
  unfold owesAny oIs xPts
  isplitl [HR]; · iexact HR
  isplitl [Hr]; · iexact Hr
  isplitl [Hpl]; · iexact Hpl
  isplitl [Hcr]; · iexact Hcr
  isplitl [Hlev]; · iexact Hlev
  isplitl [HO]; · iexists W; iexact HO
  isplitl [Hx]; · iexact Hx
  isplitl [Ho]; · iexact Ho
  isplitl [Hw]; · iexact Hw
  isplitl [Hb]; · iexact Hb
  isplitl [Hc] <;> iassumption

set_option maxRecDepth 20000 in
/-- The pipeline's obligation. -/
theorem body_obligation (c : Dev nD) : BodyObligation (dats (F := F) m ρ 0 c) (defs₀ (F := F)) 𝒱₀ () Set.univ := fun t => by
  rw [fin_N0 t, bigSep_W0, bigSep_W0]
  simp only [owns_buffer]
  exact body_point m ρ c

end Cert.Exchange

end
-- ==== Proof.Deal.lean ====
/-
# What the launch deals

The launch mints the protocol's ghost state, every device turns its semaphores into cells, and the rights are dealt to the
devices that pay with them. The credits of a device's cells come from what all devices owe at launch.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x128.Idx → Elt F .f32) (Wm : Dev nD → S2048x2048.Idx → Elt F .f32)

/-! ## Cells and rights, as minted -/

theorem ownSemFacts : Pipeline.OwnSemFacts cfg0.spec osem := by decide +kernel

/-- Every cell of every device. -/
def allCells : Finset (GSem nD τ sig) := Finset.univ.map ⟨kcell, kcell_inj⟩

/-- The rights, by the cell they pay: sixteen on a barrier semaphore, one on each other. -/
abbrev rightAt (i : Dev nD × Option (Fin 3) × Dev nD) : GSem nD τ sig × ℕ × Dev nD := match i.2.1 with
  | none => (barCell i.1, 0, i.2.2)
  | some a => (kcell (i.1, some (a, i.2.2)), 0, 0)
theorem rightAt_inj : Function.Injective rightAt := by
  rintro ⟨c, a, j⟩ ⟨c', a', j'⟩ h
  rcases a with _ | a <;> rcases a' with _ | a'
  · have h0 := congrArg (fun x => x.1) h
    have h1 : (c, (none : Option (Fin 3 × Dev nD))) = (c', none) := kcell_inj h0
    have h2 : j = j' := congrArg (fun x => x.2.2) h
    cases h1; subst h2; rfl
  · have h1 : (c, (none : Option (Fin 3 × Dev nD))) = (c', some (a', j')) := kcell_inj (congrArg (fun x => x.1) h)
    cases h1
  · have h1 : (c, some (a, j)) = (c', (none : Option (Fin 3 × Dev nD))) := kcell_inj (congrArg (fun x => x.1) h)
    cases h1
  · have h1 : (c, some (a, j)) = (c', some (a', j')) := kcell_inj (congrArg (fun x => x.1) h)
    cases h1; rfl
def allRights : Finset (GSem nD τ sig × ℕ × Dev nD) := Finset.univ.map ⟨rightAt, rightAt_inj⟩

/-- The rights on device `c`'s own cells. -/
def minted (c : Dev nD) : sProp 𝕄 :=
  iprop((bigSep Finset.univ fun j => dutyTok ER (barCell c) 0 j) ∗ (bigSep Finset.univ fun j => dutyTok ER (sendCell c j) 0 0)
    ∗ (bigSep Finset.univ fun j => dutyTok ER (recvCell c j) 0 0) ∗ bigSep Finset.univ fun j => dutyTok ER (wCell c j) 0 0)

/-- What the launch's ghost state gives device `c`. -/
def dealt (c : Dev nD) : sProp 𝕄 :=
  iprop((bigSep Finset.univ fun k => roundState ER (rd X Wm) (kcell (c, k)) 0) ∗ places (F := F) c
    ∗ (bigSep Finset.univ fun k => reached ER (kcell (c, k)) 0) ∗ minted (F := F) c)

theorem deal : BI.own (ER (initOf allCells allRights)) ⊢ (|==> bigSep Finset.univ (dealt X Wm) : sProp 𝕄) := by
  have hC (Φ : GSem nD τ sig → sProp 𝕄) : bigSep allCells Φ = bigSep Finset.univ fun c : Dev nD => bigSep Finset.univ fun k => Φ (kcell (c, k)) := by
    unfold allCells; rw [bigSep_map, bigSep_univ_prod]; rfl
  have h4 (Φ : Option (Fin 3) → sProp 𝕄) : bigSep Finset.univ Φ = iprop(Φ none ∗ Φ (some 0) ∗ Φ (some 1) ∗ Φ (some 2)) :=
    bigSep_univ_eq_bigSepL [none, some 0, some 1, some 2] (by decide) (by decide) _
  have hT : bigSep allRights (fun x => (dutyTok ER x.1 x.2.1 x.2.2 : sProp 𝕄)) = bigSep Finset.univ fun c : Dev nD => minted (F := F) c := by
    unfold allRights
    rw [bigSep_map, bigSep_univ_prod]
    refine bigSep_congr fun c _ => ?_
    rw [bigSep_univ_prod]
    rw [h4]; rfl
  unfold dealt places
  rw [bigSep_sep', bigSep_sep', bigSep_sep', ← hC fun g => roundState ER (rd X Wm) g 0, ← hC fun g => atPos ER g 0 ∅ 0, ← hC fun g => reached ER g 0, ← hT]
  iintro H
  imod (Rounds.fund ER (rd X Wm) allCells allRights) $$ H with ⟨Hst, Hr, Hat, Htok⟩
  imodintro
  isplitl [Hst]; · iexact Hst
  isplitl [Hat]; · iexact Hat
  isplitl [Hr] <;> iassumption

/-! ## Semaphores to cells -/

omit [FloatOps F] in
theorem unscoped_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem counters_eq (c : Dev nD) : (iprop(unscopedSems0 c ∗ Pipeline.ownSems0 (Ix := Unit) (Name := ℕ) (U := UU) (Lvl := ℕ) (Val := Elt F) (τ := τ) osem c) : sProp 𝕄)
    = bigSep Finset.univ fun k => semVal (kcell (c, k)) 0 := by
  rw [unscoped_eq, univ_option]; rfl

/-- A device's counters, at zero, become its cells' invariants. -/
theorem make_cells (c : Dev nD) :
    iprop(Pipeline.ownSems0 (Ix := Unit) (Name := ℕ) (U := UU) (Lvl := ℕ) (Val := Elt F) (τ := τ) osem c ∗ unscopedSems0 c ∗ dealt X Wm c)
      ⊢ |={Set.univ}=> iprop((bigSep Finset.univ fun k => iprop(∃ κ : ℕ, cellInv ER (rd X Wm) κ (kcell (c, k))))
          ∗ places (F := F) c ∗ (bigSep Finset.univ fun k => reached ER (kcell (c, k)) 0) ∗ minted (F := F) c) := by
  have hz : iprop((bigSep Finset.univ fun k => semVal (kcell (c, k)) 0) ∗ bigSep Finset.univ fun k => roundState ER (rd X Wm) (kcell (c, k)) 0)
      ⊢ (|={Set.univ}=> bigSep Finset.univ fun k => iprop(∃ κ : ℕ, cellInv ER (rd X Wm) κ (kcell (c, k))) : sProp 𝕄) := by
    rw [← bigSep_sep']
    exact (bigSep_mono fun k _ => (Rounds.body_intro ER (rd X Wm) (kcell (c, k))).trans inv_alloc).trans (bigSep_fupd _ _)
  rw [← counters_eq] at hz
  unfold dealt
  iintro ⟨Ho, Hu, Hst, H⟩
  imod hz $$ [Ho Hu Hst] with Hinv
  · isplitl [Ho Hu]
    · isplitl [Hu] <;> iassumption
    iexact Hst
  imodintro
  isplitl [Hinv] <;> iassumption

/-- The rights to whoever pays with them: those on barrier and receive semaphores go to other devices. -/
theorem pass_rights : bigSep Finset.univ (fun c => minted (F := F) c) ⊢ (bigSep Finset.univ fun c => rights (F := F) c : sProp 𝕄) := by
  have hr (c : Dev nD) : (iprop((bigSep Finset.univ fun j => dutyTok ER (wCell c j) 0 0) ∗ (bigSep Finset.univ fun d => dutyTok ER (barCell d) 0 c)
      ∗ (bigSep Finset.univ fun j => dutyTok ER (sendCell c j) 0 0) ∗ bigSep Finset.univ fun d => dutyTok ER (recvCell d c) 0 0) : sProp 𝕄) ⊢ rights c := by
    unfold rights sendRight
    rw [list_sep, univ_around c fun j => dutyTok ER (sendCell c j) 0 0, univ_around c fun d => dutyTok ER (recvCell d c) 0 0]
    iintro ⟨Hw, Hb, ⟨-, Hs⟩, ⟨-, Hr⟩⟩
    isplitl [Hw]; · iexact Hw
    isplitl [Hb]; · iexact Hb
    isplitl [Hs] <;> iassumption
  refine BIBase.Entails.trans ?_ (bigSep_mono fun c _ => hr c)
  unfold minted
  simp only [bigSep_sep']
  rw [BI.bigSep_univ_comm fun c j : Dev nD => (dutyTok ER (barCell c) 0 j : sProp 𝕄),
    BI.bigSep_univ_comm fun c j : Dev nD => (dutyTok ER (recvCell c j) 0 0 : sProp 𝕄)]
  iintro ⟨Hb, Hs, Hr, Hw⟩
  isplitl [Hw]; · iexact Hw
  isplitl [Hb]; · iexact Hb
  isplitl [Hs] <;> iassumption

/-- Each device with the records of all cells, its rights and its places. -/
def settled (c : Dev nD) : sProp 𝕄 := iprop(∃ K, records X Wm K ∗ rights (F := F) c ∗ places (F := F) c)

theorem settle :
    (bigSep Finset.univ fun c : Dev nD => iprop((bigSep Finset.univ fun k => iprop(∃ κ : ℕ, cellInv ER (rd X Wm) κ (kcell (c, k))))
          ∗ places (F := F) c ∗ (bigSep Finset.univ fun k => reached ER (kcell (c, k)) 0) ∗ minted (F := F) c) : sProp 𝕄)
      ⊢ bigSep Finset.univ (settled X Wm) := by
  rw [bigSep_sep', bigSep_sep', bigSep_sep', ← bigSep_univ_prod (fun ck : Dev nD × Option (Fin 3 × Dev nD) => iprop(∃ κ : ℕ, cellInv ER (rd X Wm) κ (kcell ck))),
    ← bigSep_univ_prod (fun ck : Dev nD × Option (Fin 3 × Dev nD) => (reached ER (kcell ck) 0 : sProp 𝕄))]
  iintro ⟨HI, Hat, #HR, Htok⟩
  ihave HK := (BI.bigSep_exists_pi Finset.univ (fun (ck : Dev nD × Option (Fin 3 × Dev nD)) (κ : ℕ) => (cellInv ER (rd X Wm) κ (kcell ck) : sProp 𝕄))) $$ HI
  icases HK with ⟨%K, #HI⟩
  ihave Htk := (pass_rights (F := F)) $$ Htok
  have hs (c : Dev nD) : iprop(records X Wm K ∗ (rights (F := F) c ∗ places (F := F) c)) ⊢ settled X Wm c := by
    unfold settled; iintro H; iexists K; iexact H
  iapply (bigSep_with_persistent (R := records X Wm K) fun c _ => hs c)
  isplitr
  · unfold records; isplitl; · iexact HI
    iexact HR
  rw [bigSep_sep']
  isplitl [Htk] <;> iassumption

theorem all_settled : (bigSep Finset.univ fun c => iprop(Pipeline.ownSems0 (Ix := Unit) (Name := ℕ) (U := UU) (Lvl := ℕ) (Val := Elt F) (τ := τ) osem c ∗ unscopedSems0 c ∗ dealt X Wm c) : sProp 𝕄)
    ⊢ |={Set.univ}=> bigSep Finset.univ (settled X Wm) :=
  ((bigSep_mono fun c _ => make_cells X Wm c).trans (bigSep_fupd _ _)).trans (BI.fupd_mono (settle X Wm))

/-! ## The credits -/

theorem sum_at {ι : Type} (l : List ι) (f : ι → CellTallies nD τ sig Unit) (g : GSem nD τ sig) : (l.map f).sum g () = (l.map fun i => f i g ()).sum := by
  induction l with
  | nil => rfl
  | cons i l ih => rw [List.map_cons, List.sum_cons, List.map_cons, List.sum_cons, ← ih]; rfl

theorem bar_ne_recv (c d j : Dev nD) : barCell c ≠ recvCell d j := fun h => by
  have h1 : (c, (none : Option (Fin 3 × Dev nD))) = (d, some (1, j)) := kcell_inj h
  cases h1

/-- A device owes one unit to each barrier semaphore, -/
theorem owed_bar (d c : Dev nD) : O₀ d (barCell c) () = 1 := by
  have hr : owedRecv d dists (barCell c) () = 0 := by
    rcases Nat.eq_zero_or_pos (owedRecv d dists (barCell c) ()) with h | h
    · exact h
    · obtain ⟨e, he⟩ := owedRecv_pos h; exact absurd he (bar_ne_recv _ _ _)
  have hb : owedBar devs (barCell c) () = (devs.map fun e => if c = e then 1 else 0).sum := by
    unfold owedBar; rw [sum_at]
    refine congrArg List.sum (List.map_congr_left fun e _ => ?_)
    rw [tallyAt_apply]
    exact if_congr ⟨fun h => congrArg Prod.fst (kcell_inj (a₁ := (c, none)) (a₂ := (e, none)) h.1), fun h => ⟨by rw [h], rfl⟩⟩ rfl rfl
  unfold O₀
  rw [Pi.add_apply, Finsupp.add_apply, hr, hb, Nat.add_zero]
  exact (by decide : ∀ c : Dev nD, (devs.map fun e => if c = e then 1 else 0).sum = 1) c

/-- and a row block's bytes to its semaphore of each other device. -/
theorem owed_recv (d c k : Dev nD) (hk : k ∈ dists) : O₀ d (recvCell c (c + k)) () = if d = c + k then N else 0 := by
  have hb : owedBar devs (recvCell c (c + k)) () = 0 := by
    rcases Nat.eq_zero_or_pos (owedBar devs (recvCell c (c + k)) ()) with h | h
    · exact h
    · obtain ⟨e, he⟩ := owedBar_pos h; exact absurd he.symm (bar_ne_recv _ _ _)
  have hr : owedRecv d dists (recvCell c (c + k)) () = (dists.map fun e => if d + e = c ∧ d = c + k then N else 0).sum := by
    unfold owedRecv; rw [sum_at]
    refine congrArg List.sum (List.map_congr_left fun e _ => ?_)
    rw [tallyAt_apply]
    refine if_congr ⟨fun h => ?_, fun h => ⟨by rw [h.1, h.2], rfl⟩⟩ rfl rfl
    have h1 : (c, some ((1 : Fin 3), c + k)) = (d + e, some (1, d)) := kcell_inj h.1
    have h2 := congrArg Prod.fst h1
    have h3 := congrArg Prod.snd h1
    injection h3 with h3
    exact ⟨h2.symm, (congrArg Prod.snd h3).symm⟩
  unfold O₀
  rw [Pi.add_apply, Finsupp.add_apply, hr, hb, Nat.zero_add]
  by_cases hd : d = c + k
  · have h1 : (dists.map fun e => if d + e = c ∧ d = c + k then N else 0) = dists.map fun e => N * if c + k + e = c then 1 else 0 := by
      refine List.map_congr_left fun e _ => ?_
      rw [hd]; by_cases he : c + k + e = c
      · rw [if_pos ⟨he, rfl⟩, if_pos he, Nat.mul_one]
      · rw [if_neg fun h => he h.1, if_neg he, Nat.mul_zero]
    rw [h1, if_pos hd, List.sum_map_mul_left,
      (by decide +kernel : ∀ c k : Dev nD, k ∈ dists → (dists.map fun e => if c + k + e = c then 1 else 0).sum = 1) c k hk, Nat.mul_one]
  · rw [if_neg hd]
    refine List.sum_eq_zero fun x hx => ?_
    obtain ⟨e, -, rfl⟩ := List.mem_map.mp hx
    exact if_neg fun h => hd h.2

theorem launch_bar (c : Dev nD) : tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]
  decide

theorem launch_recv (c k : Dev nD) (hk : k ∈ dists) :
    tallyOn (recvCell c (c + k)) (launchCredit (Pipeline.owing O₀) 0 (recvCell c (c + k))) = (tallyAt (recvCell c (c + k)) () N : CellTallies nD τ sig Unit) := by
  unfold tallyAt; refine congrArg _ (Finsupp.ext fun u => ?_); cases u
  rw [Pipeline.launchCredit_owing, Finsupp.single_eq_same, Finset.sum_congr rfl fun d _ => owed_recv d c k hk,
    Finset.sum_ite_eq' Finset.univ (c + k) fun _ => N, if_pos (Finset.mem_univ _)]

/-- The launch's credits hold those the body needs. -/
theorem make_credits (c : Dev nD) : (Pipeline.launchCred O₀ c : sProp 𝕄) ⊢ credits c := by
  have hl : (bigSepL dists fun k => cred (tallyOn (recvCell c (c + k)) (launchCredit (Pipeline.owing O₀) 0 (recvCell c (c + k)))) : sProp 𝕄)
      = bigSepL dists fun k => cred (tallyAt (recvCell c (c + k)) () N) := list_congr _ fun k hk => by rw [launch_recv c k hk]
  unfold Pipeline.launchCred credits
  refine (bigSep_subset (t := Finset.univ.map ⟨csem, csem_inj⟩) (Finset.subset_univ _)).trans ?_
  rw [bigSep_map, univ_cells, ← hl, ← launch_bar]
  refine (Entails.of_eq (congrArg (fun P => iprop(_ ∗ _ ∗ P ∗ _)) (univ_around c _))).trans ?_
  iintro ⟨Hb, -, ⟨-, Hr⟩, -⟩
  isplitl [Hb]; · iexact Hb
  iexact Hr

end Cert.Exchange

end
-- ==== Proof.Run.lean ====
/-
# The run of the kernel

From any memory with zero counters the kernel runs to the end on all sixteen devices: every result array holds what the
body computes, the arguments hold what they held, and every counter is back at zero.
-/
module

public import proofs.«01_k».proof.Proof.Deal
public import Idealize.ShloMosaic.Lib.Pipeline.Kit
public import Idealize.ShloMosaic.Lib.Pipeline.CollectiveSegs
public import Idealize.ShloMosaic.Lib.Pipeline.ValueKit

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The launch's ghost state: the pipeline's and the exchange's. -/
def u₀ : UU := (initOf (Pipeline.cells cfgs cellOf_inj) (Pipeline.launchToks cfgs cellOf_inj), initOf allCells allRights)

theorem mint : (ownU u₀ : sProp 𝕄) ⊢ |={Set.univ}=> iprop(BI.own (EP (initOf (Pipeline.cells cfgs cellOf_inj) (Pipeline.launchToks cfgs cellOf_inj)))
    ∗ bigSep Finset.univ (dealt (F := F) (xAt m) (wAt m))) := by
  unfold u₀
  iintro Hu
  ihave H := (ownU_pair _ _) $$ Hu
  icases H with ⟨HP, HX⟩
  imod (deal (xAt m) (wAt m)) $$ HX with HG
  imodintro
  isplitl [HP] <;> iassumption

/-- Before the region. -/
def entering (c : Dev nD) : sProp 𝕄 := iprop(given m c ∗ ((c : Thread nD τ).loc main_arg1 ↦{fullShare} wAt m c))
/-- After it: the unscoped counter at zero, `w` as it was. -/
def leaving (c : Dev nD) : sProp 𝕄 := iprop(unscopedSems0 c ∗ ((c : Thread nD τ).loc main_arg1 ↦{fullShare} wAt m c))

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ settled (xAt m) (wAt m) c)
      ⊢ |={Set.univ}=> iprop(entering m c ∗ emp) := by
  rw [Pipeline.unscopedRestP_none, show cfg0.spec = spec0 from rfl, unscopedRest0_eq]
  unfold settled entering given
  iintro ⟨Hw, Hlev, Hcr, -, HG⟩
  ihave Hc := (make_credits (F := F) c) $$ Hcr
  imodintro
  isplitl
  · isplitr [Hw]
    · isplitl [HG]; · iexact HG
      isplitl [Hc] <;> iassumption
    iexact Hw
  iempintro

theorem first (c : Dev nD) :
    iprop(entering m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(given m c ∗ ((c : Thread nD τ).loc main_arg1 ↦{fullShare} wAt m c) ∗ scratch c) from rfl,
    show cfg0.spec = spec0 from rfl, scopedRest0_eq]
  unfold entering
  iintro ⟨⟨Hg, Hw⟩, -, Hr⟩
  isplitl [Hg]; · iexact Hg
  isplitl [Hw]; · iexact Hw
  unfold scratch; iexact Hr

theorem last (c : Dev nD) :
    (dats m ρ 0 c).Φ (Fin.last cfg0.N) ⊢ iprop(leaving m c ∗ Pipeline.ownSems0 osem c ∗ Pipeline.scopedRest cfg0.spec c) := by
  have ho : (Pipeline.ownSems0 (Ix := Unit) (Name := ℕ) (U := UU) (Lvl := ℕ) (Val := Elt F) (τ := τ) osem c : sProp 𝕄)
      = iprop((bigSep Finset.univ fun j => semVal (sendCell c j) 0) ∗ (bigSep Finset.univ fun j => semVal (recvCell c j) 0)
        ∗ bigSep Finset.univ fun j => semVal (wCell c j) 0) := univ_three fun k => semVal (kcell (c, some k)) 0
  rw [show (dats m ρ 0 c).Φ (Fin.last cfg0.N) = finished (xAt m) (wAt m) c from rfl, show cfg0.spec = spec0 from rfl, scopedRest0_eq, ho]
  unfold leaving finished
  rw [unscoped_eq]
  iintro ⟨⟨Hzb, Hz⟩, Hw, Hb, Hc, Hp⟩
  isplitl [Hzb Hw]
  · isplitl [Hzb] <;> iassumption
  isplitl [Hz]; · iexact Hz
  isplitl [Hb]; · iexists _; iexact Hb
  isplitl [Hc]; · iexists _; iexact Hc
  iexists _; iexact Hp

theorem shares (c : Dev nD) (w : Fin cfg0.W) : (dats m ρ 0 c).share w = fullShare := by unfold Pipeline.Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off a device at the end. -/
def atEnd (c : Dev nD) (s : MemSt nD τ sig (Elt F)) : Prop :=
  (∀ sm : SemLoc sig, sm.isScoped .tc = false → s.sem ((c.tc : Thread nD τ), sm) = 0) ∧ s.mem ((c : Thread nD τ).loc main_arg1) = m ((c : Thread nD τ).loc main_arg1)

theorem read_end (c : Dev nD) (s : Phys nD τ sig (Elt F)) :
    (iprop(leaving m c ∗ emp ∗ SI s) : sProp 𝕄) ⊢ |={Set.univ}=> iprop(⌜atEnd m c s.mem⌝ ∗ SI s) := by
  unfold leaving
  iintro ⟨⟨Hu, Hw⟩, -, HSI⟩
  icombine HSI Hw gives %h
  imod (Pipeline.unscopedSems0_read (X := unscopedSems0 c) (c := c) fupd_intro s) $$ [Hu HSI] with ⟨%hs, HSI⟩
  · isplitl [Hu] <;> iassumption
  imodintro
  isplitr; · ipureintro; exact ⟨hs, Buf.eq_of_forall_mem_univ h⟩
  iexact HSI

set_option maxRecDepth 8000 in
/-- The run: each window's array at its final contents, `w` unchanged, the counters at zero. -/
theorem run_all : θ_run defs (onTc (τ := τ) (main (F := F))) (s₀ m ρ) (fun r =>
    (∀ c : Dev nD, (∀ w : Fin cfg0.W, r.2.mem ((cfg0.win w).arr.view.loc (c : Thread nD τ)) = (dats m ρ 0 c).arrAt w cfg0.N)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := waits m ρ)
    (G := dealt (xAt m) (wAt m)) (G' := settled (xAt m) (wAt m)) (u₀ := u₀) (hu₀ := mint m)
    (hglob := all_settled (xAt m) (wAt m))
    (hA := fun _ _ => rfl) (hpf := fun _ k => k.elim0)
    (X := entering m) (Y := leaving m) (Z := fun _ => iprop(emp))
    (hX := enter m ρ) (hin := first m ρ) (hout := last m ρ)
    (QY := atEnd m) (hY := read_end m)
    (hQ := fun _ h hs => ⟨fun c => ⟨fun w => (h c).1 w, (h c).2.2.2⟩, sem_eq_zero hs fun c => (h c).2.2.1⟩)

/-! ## The windows: each array is one block -/

omit [FloatOps F] in
/-- The staged shard is the argument. -/
theorem xAt_eq (c : Dev nD) : xAt m c = m ((c : Thread nD τ).loc main_arg0) := by
  funext i
  refine congrArg (m ((c : Thread nD τ).loc main_arg0)) (funext fun a => Fin.ext ?_)
  refine (Pipeline.Window.rect_emb_val win0_0 t0_0 i a).trans ?_
  rw [(by decide +kernel : ∀ a, win0_0.index t0_0 a = 0) a, Nat.zero_mul, Nat.zero_add]

/-- The result array holds what the body leaves in its buffer. -/
theorem result_eq (c : Dev nD) : (dats m ρ 0 c).arrAt (1 : Fin 2) cfg0.N = outOf (xAt m) (wAt m) c :=
  (dats m ρ 0 c).arrAt_eq_of_after_last (1 : Fin 2) t0_0 (by decide +kernel) _ fun j => rfl

/-- The run, its arrays named. -/
theorem run_main : θ_run defs (onTc (τ := τ) (main (F := F))) (s₀ m ρ) (fun r =>
    (∀ c : Dev nD, r.2.mem ((c : Thread nD τ).loc main_v1) = outOf (xAt m) (wAt m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (result_eq m ρ c),
    ((h.1 c).1 (0 : Fin 2)).trans ((dats m ρ 0 c).arrAt_in (0 : Fin 2) rfl _), (h.1 c).2⟩, h.2⟩) (run_all m ρ)

end Cert.Exchange

end
-- ==== Proof.Sums.lean ====
/-
# A sum in blocks

A sum over 2048 positions is the sum of sixteen sums over 128 positions each, and these may be added one after another
in any order.
-/
module

public import proofs.«01_k».proof.Proof.Lists

@[expose] public section

noncomputable section

namespace Cert.Exchange

open Cert.KernelIdeal Idealize.ShloMosaic

variable {M : Type} [AddCommMonoid M]

/-- The position that is number `t` of block `j`. -/
def posOf (j : Dev nD) (t : Fin 128) : Fin 2048 :=
  ⟨128 * j.val + t.val, by have := j.isLt; simp only [nD] at this; omega⟩

/-- A sum over all positions, block by block. -/
theorem sum_blocks (f : Fin 2048 → M) : ∑ s, f s = ∑ j : Dev nD, ∑ t : Fin 128, f (posOf j t) := by
  have e := Fintype.sum_prod_type' (fun (j : Dev nD) (t : Fin 128) => f (posOf j t))
  rw [← e]
  refine (Fintype.sum_equiv (finProdFinEquiv (m := 16) (n := 128)) (fun p : Dev nD × Fin 128 => f (posOf p.1 p.2)) f fun p => ?_).symm
  refine congrArg f (Fin.ext ?_)
  show 128 * p.1.val + p.2.val = p.2.val + 128 * p.1.val
  omega

/-- Adding up along a list, from `a`. -/
theorem foldl_add {α : Type} (g : α → M) (l : List α) (a : M) : l.foldl (fun s k => s + g k) a = a + (l.map g).sum := by
  induction l generalizing a with
  | nil => simp
  | cons k l ih => rw [List.foldl_cons, ih, List.map_cons, List.sum_cons, add_assoc]

/-- The blocks added up by their distance from `c`, in the kernel's order, are all blocks. -/
theorem sum_order (c : Dev nD) (g : Dev nD → M) : (order.map fun k => g (c + k)).sum = ∑ j, g j := by
  rw [← List.sum_toFinset _ order_nodup, ← order_univ]
  exact Fintype.sum_equiv (shift c) _ _ fun _ => rfl

end Cert.Exchange

end
-- ==== Proof.Value.lean ====
/-
# What the kernel computes

At the ideal values, device `c`'s result is row block `c` of the reference's result: entry by entry, the sixteen block
products add up to the reference's one product, and the activation is the same up to the order of its factors.
-/
module

public import proofs.«01_k».proof.Proof.Walk
public import proofs.«01_k».proof.Proof.Sums
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx

/-! ## The two programs' results at an entry -/

/-- The activation, as the kernel multiplies it out. -/
def act (y : EReal) : EReal :=
  (Ideal.ofBits .f32 0x3F000000#32 * y) *
    (Ideal.ofBits .f32 0x3F800000#32 +
      Ideal.tanh (Ideal.ofBits .f32 0x3F4C422A#32 * (y + ((Ideal.ofBits .f32 0x3D372713#32 * y) * y) * y)))

/-- One block product added to what is there. -/
theorem step_apply (a : FVec Ideal S128x2048 .f32) (x : Vec Ideal S1x128x128 .bf16) (w : Vec Ideal S1x128x2048 .f32)
    (r : Fin 128) (n : Fin 2048) :
    k0_pay4 a x w (ix2 r n) = (a (ix2 r n) + ∑ t : Fin 128, (x (ix3 (0 : Fin 1) r t) * w (ix3 (0 : Fin 1) t n) : EReal) : EReal) := by
  refine congrArg (a (ix2 r n) + · : EReal → EReal) ?_
  refine (Ideal.matmul_plain_apply (M := 128) (K := 128) (N := 2048) none _ _ _ r n).trans ?_
  refine (congrArg₂ (· + · : EReal → EReal → EReal) Ideal.ofBits_zero_f32 (Finset.sum_congr rfl fun t _ => ?_)).trans (zero_add _)
  exact congrArg₂ (· * · : EReal → EReal → EReal) (shapeCast_1ab_ab_apply x _ r t) (shapeCast_1ab_ab_apply w _ t n)

/-- The last step: one more block product, then the activation. -/
theorem last_apply (a : FVec Ideal S128x2048 .f32) (x : Vec Ideal S1x128x128 .bf16) (w : Vec Ideal S1x128x2048 .f32)
    (i : S128x2048.Idx) : k0_pay18 a x w i = act (k0_pay4 a x w i) := rfl

/-- Block `j` of the product that entry `(r, n)` of device `c`'s result adds up. -/
def term (X : Dev nD → S2048x128.Idx → EReal) (Wm : Dev nD → S2048x2048.Idx → EReal) (c : Dev nD) (r : Fin 128) (n : Fin 2048)
    (j : Dev nD) : EReal :=
  ∑ t : Fin 128, X j (ix2 (posOf c r) t) * Wm c (ix2 (posOf j t) n)

variable (X : Dev nD → S2048x128.Idx → Elt Ideal .f32) (Wm : Dev nD → S2048x2048.Idx → Elt Ideal .f32) (c : Dev nD)

theorem commBlk_apply (j : Dev nD) (r t : Fin 128) : commBlk X c j (ix3 (0 : Fin 1) r t) = X j (ix2 (posOf c r) t) := by
  show commAll X c ((Rect.unit (s := S16x128x128) ![j.val, 0, 0] S1x128x128.size (inb_comm j)).emb (ix3 (0 : Fin 1) r t)) = _
  rw [show (ix3 (0 : Fin 1) r t) = ix3 (⟨0, Nat.one_pos⟩ : Fin 1) r t from rfl, slotRect_emb]
  show k0_pay1 (X j) (ix2 (posOf c r) t) = _
  unfold k0_pay1
  rw [shapeCast_self]
  show shapeCast S2048x128 (X j) shapeCasts_S2048x128_S2048x128 (ix2 (posOf c r) t) = _
  rw [shapeCast_self]

theorem wbufBlk_apply (j : Dev nD) (t : Fin 128) (n : Fin 2048) :
    wbufBlk Wm c j (ix3 (0 : Fin 1) t n) = Wm c (ix2 (posOf j t) n) := by
  show wbufAll Wm c ((Rect.unit (s := S16x128x2048) ![j.val, 0, 0] S1x128x2048.size (inb_wbuf j)).emb (ix3 (0 : Fin 1) t n)) = _
  rw [show (ix3 (0 : Fin 1) t n) = ix3 (⟨0, Nat.one_pos⟩ : Fin 1) t n from rfl, wslotRect_emb]
  rfl

/-- A step with the block at distance `k` adds that block's term. -/
theorem block_apply (a : FVec Ideal S128x2048 .f32) (j : Dev nD) (r : Fin 128) (n : Fin 2048) :
    k0_pay4 a (commBlk X c j) (wbufBlk Wm c j) (ix2 r n) = (a (ix2 r n) + term X Wm c r n j : EReal) := by
  rw [step_apply]
  refine congrArg (a (ix2 r n) + · : EReal → EReal) (Finset.sum_congr rfl fun t _ => ?_)
  rw [commBlk_apply, wbufBlk_apply]

/-- Steps along a list add its terms up. -/
theorem fold_apply (l : List (Dev nD)) (a : FVec Ideal S128x2048 .f32) (r : Fin 128) (n : Fin 2048) :
    l.foldl (fun a k => k0_pay4 a (commBlk X c (c + k)) (wbufBlk Wm c (c + k))) a (ix2 r n)
      = (a (ix2 r n) + (l.map fun k => term X Wm c r n (c + k)).sum : EReal) := by
  induction l generalizing a with
  | nil => exact (add_zero (a (ix2 r n) : EReal)).symm
  | cons k l ih =>
    rw [List.foldl_cons, ih, block_apply, List.map_cons, List.sum_cons]
    exact add_assoc (G := EReal) _ _ _

/-- The kernel's result on device `c`, at an entry: the activation of the sum over all positions. -/
theorem outOf_apply (r : Fin 128) (n : Fin 2048) :
    outOf X Wm c (ix2 r n) = act (∑ j, term X Wm c r n j) := by
  unfold outOf
  rw [last_apply]
  refine congrArg act ?_
  have h : k0_pay4 (partialSum X Wm c [0, 15, 14, 13, 12, 11, 10, 9, 8, 7, 6, 5, 4, 3, 2]) (commBlk X c (c + 1)) (wbufBlk Wm c (c + 1))
      = order.foldl (fun a k => k0_pay4 a (commBlk X c (c + k)) (wbufBlk Wm c (c + k))) (k0_pay3 (F := Ideal)) := rfl
  rw [h, fold_apply, sum_order c (term X Wm c r n)]
  exact (congrArg (· + _ : EReal → EReal) Ideal.ofBits_zero_f32).trans (zero_add _)

/-! ## The reference -/

section Reference
open Cert.ReferenceIdeal (dot_S2048x2048_S2048x2048_S2048x2048_1_0_0_1_n_n)
open Cert.ReferenceIdeal.Gen (bcast_S_S2048x2048)

/-- The reference's product. -/
abbrev refDot (A B : FVec Ideal S2048x2048 .f32) : FVec Ideal S2048x2048 .f32 :=
  Host.dotGeneral dot_S2048x2048_S2048x2048_S2048x2048_1_0_0_1_n_n none A B

abbrev splat (w : BitVec 32) : FVec Ideal S2048x2048 .f32 :=
  broadcastInDim S2048x2048 ![] bcast_S_S2048x2048 (constant Cert.ReferenceIdeal.S_ .f32 w)

/-- The reference's result of the whole arrays `A` and `B`. -/
def refOf (A B : FVec Ideal S2048x2048 .f32) : FVec Ideal S2048x2048 .f32 :=
  mulf (mulf (splat 0x3F000000#32) (refDot A B))
    (addf (splat 0x3F800000#32)
      (Host.tanh (mulf (splat 0x3F4C422A#32)
        (addf (refDot A B) (mulf (splat 0x3D372713#32) (mulf (mulf (refDot A B) (refDot A B)) (refDot A B)))))))

theorem splat_apply (w : BitVec 32) (i : S2048x2048.Idx) : splat w i = Ideal.ofBits .f32 w :=
  broadcastInDim_scalar_apply _ _ _

/-- The reference's result at an entry: the same activation. -/
theorem refOf_apply (A B : FVec Ideal S2048x2048 .f32) (i : S2048x2048.Idx) : refOf A B i = act (refDot A B i) := by
  show (splat 0x3F000000#32 i * refDot A B i : EReal) * (splat 0x3F800000#32 i + Ideal.tanh (splat 0x3F4C422A#32 i *
    (refDot A B i + splat 0x3D372713#32 i * ((refDot A B i * refDot A B i) * refDot A B i)))) = _
  simp only [splat_apply]
  unfold act
  simp only [mul_assoc]

theorem refDot_apply (A B : FVec Ideal S2048x2048 .f32) (a b : Fin 2048) :
    refDot A B (ix2 a b) = ∑ s : Fin 2048, (A (ix2 a s) * B (ix2 s b) : EReal) :=
  StackMember.dotGeneral_plain_apply (m := 2048) (n := 2048) (k := 2048) none A B a b

end Reference

/-! ## The two agree -/

/-- With device `d` holding column block `d` of `A` and every device all of `B`, device `c` ends with row block `c` of the
    reference's result. -/
theorem outOf_eq (A B : FVec Ideal S2048x2048 .f32)
    (hX : ∀ d : Dev nD, X d = Layout.block ⟨2, ![2048, 128]⟩ ⟨2, ![2048, 2048]⟩ 1 16 d A) (hW : ∀ d, Wm d = B) :
    outOf X Wm c = Layout.block ⟨2, ![128, 2048]⟩ ⟨2, ![2048, 2048]⟩ 0 16 c (refOf A B) := by
  funext i
  obtain ⟨r, n, rfl⟩ := exists_ix2 i
  rw [outOf_apply, Layout.block_apply, refOf_apply]
  have e : ∀ h : Layout.Tiles ⟨2, ![128, 2048]⟩ ⟨2, ![2048, 2048]⟩ 0 16, h.idx c (ix2 r n) = ix2 (posOf c r) n := fun h => by
    funext x; refine Fin.ext ?_
    fin_cases x
    · show c.val * 128 + r.val = 128 * c.val + r.val; omega
    · rfl
  rw [e, refDot_apply, sum_blocks]
  refine congrArg act (Finset.sum_congr rfl fun j _ => Finset.sum_congr rfl fun t _ => ?_)
  rw [hX, hW]
  refine congrArg (· * B (ix2 (posOf j t) n) : EReal → EReal) ?_
  rw [Layout.block_apply]
  refine congrArg A ?_
  funext x; refine Fin.ext ?_
  fin_cases x
  · rfl
  · show j.val * 128 + t.val = 128 * j.val + t.val; omega

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel Cert.Exchange

/-- The run of the idealized kernel, for any float values, with the results dropped. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main m ρ)

/-- The kernel as compiled has the same text: its bodies are the idealized kernel's, -/
theorem bodies_eq : Cert.Kernel.defs₀ (F := Bits) = Cert.KernelIdeal.defs₀ (F := Bits) := by
  refine congrArg Defs.onTc (funext fun l => ?_)
  match l with
  | 0 => rfl

/-- and so are its procedures. -/
theorem defs_eq : Cert.Kernel.defs (F := Bits) = Cert.KernelIdeal.defs (F := Bits) :=
  congrArg (Pipeline.defs (Cert.KernelIdeal.pcfgs (F := Bits))) bodies_eq

/-- So the run at the words is its run. -/
theorem frame_kernel : Cert.quiescent_Kernel := fun m ρ _ => by
  have h := frame_any (F := Bits) m ρ
  rw [← defs_eq] at h
  exact h

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device by device, the kernel's result is its row block of the reference's result. -/
theorem algebraic : Cert.algebraic_KernelIdeal_ReferenceIdeal := fun m ρ m' ρ' _ h => by
  refine ⟨refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r q c => ⟨(q.1 c).1.trans ?_, (q.1 c).2⟩) (run_main (F := Ideal) m ρ)
    exact outOf_eq (xAt m) (wAt m) c _ _ (fun d => (xAt_eq m d).trans (h d).1) (fun d => (h d).2)
  · exact (θ_run Cert.ReferenceIdeal.defs _ _).mono (fun r q => q 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
